-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_chain [hPre_chain : Cert.Pre_chain.Facts] (m : (ℓ : Loc Cert.KernelIdeal.nD Cert.KernelIdeal.τ Cert.KernelIdeal.sig) → Buf (Elt Ideal) ℓ) : Prop :=
  ∀ c : Dev Cert.KernelIdeal.nD,
    (Cert.Pre_chain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).1 = (fun _ => 1#1)
    ∧ (Cert.Pre_chain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.1 = (fun _ => 1#1)
    ∧ (Cert.Pre_chain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.1 = (fun _ => 1#1)
    ∧ (Cert.Pre_chain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.1 = (fun _ => 1#1)
    ∧ (Cert.Pre_chain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.1 = (fun _ => 1#1)
    ∧ (Cert.Pre_chain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.1 = (fun _ => 1#1)
    ∧ (Cert.Pre_chain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.1 = (fun _ => 1#1)
    ∧ (Cert.Pre_chain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.1 = (fun _ => 1#1)
    ∧ (Cert.Pre_chain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.1 = (fun _ => 1#1)
    ∧ (Cert.Pre_chain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.2.1 = (fun _ => 1#1)
    ∧ (Cert.Pre_chain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.2.2.1 = (fun _ => 1#1)
    ∧ (Cert.Pre_chain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.2.2.2.1 = (fun _ => 1#1)
    ∧ (Cert.Pre_chain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_chain [hPre_chain : Cert.Pre_chain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_chain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).1 = (fun _ => 1#1)
    ∧ (Cert.Pre_chain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.1 = (fun _ => 1#1)
    ∧ (Cert.Pre_chain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.1 = (fun _ => 1#1)
    ∧ (Cert.Pre_chain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.1 = (fun _ => 1#1)
    ∧ (Cert.Pre_chain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.1 = (fun _ => 1#1)
    ∧ (Cert.Pre_chain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.1 = (fun _ => 1#1)
    ∧ (Cert.Pre_chain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.1 = (fun _ => 1#1)
    ∧ (Cert.Pre_chain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.1 = (fun _ => 1#1)
    ∧ (Cert.Pre_chain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.1 = (fun _ => 1#1)
    ∧ (Cert.Pre_chain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.2.1 = (fun _ => 1#1)
    ∧ (Cert.Pre_chain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.2.2.1 = (fun _ => 1#1)
    ∧ (Cert.Pre_chain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.2.2.2.1 = (fun _ => 1#1)
    ∧ (Cert.Pre_chain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_chain [hKernelIdeal : Cert.KernelIdeal.Facts] [hPre_chain : Cert.Pre_chain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_chain m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_chain [hReferenceIdeal : Cert.ReferenceIdeal.Facts] [hPre_chain : Cert.Pre_chain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_chain m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  IdealRules.named_const.Statement Cert.KernelIdeal.κ "inv_two_pi" .f32 0x3E22F983#32 ((2097152 / 13176795 : ℝ) : EReal)

def algebraic_KernelIdeal_ReferenceIdeal_pre_chain [hKernelIdeal : Cert.KernelIdeal.Facts] [hReferenceIdeal : Cert.ReferenceIdeal.Facts] [hPre_chain : Cert.Pre_chain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_chain m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v237) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_chain : Cert.Pre_chain.Facts),
    quiescent_Kernel (hKernel := hKernel)
    ∧ quiescent_KernelIdeal (hKernelIdeal := hKernelIdeal)
    ∧ quiescent_KernelIdeal_pre_chain (hKernelIdeal := hKernelIdeal) (hPre_chain := hPre_chain)
    ∧ quiescent_ReferenceIdeal (hReferenceIdeal := hReferenceIdeal)
    ∧ quiescent_ReferenceIdeal_pre_chain (hReferenceIdeal := hReferenceIdeal) (hPre_chain := hPre_chain)
    ∧ preserves_Kernel_KernelIdeal
    ∧ algebraic_KernelIdeal_ReferenceIdeal_pre_chain (hKernelIdeal := hKernelIdeal) (hReferenceIdeal := hReferenceIdeal) (hPre_chain := hPre_chain)
-- ==== Pre_chain.lean ====
abbrev S2048x6144 : Shape := ⟨2, ![2048, 6144]⟩
abbrev S2045 : Shape := ⟨1, ![2045]⟩
abbrev S2045x3 : Shape := ⟨2, ![2045, 3]⟩
abbrev S2048x2048 : Shape := ⟨2, ![2048, 2048]⟩
abbrev S2048x2047 : Shape := ⟨2, ![2048, 2047]⟩
abbrev S2048x2046 : Shape := ⟨2, ![2048, 2046]⟩
abbrev S_ : Shape := ⟨0, ![]⟩

class Facts : Prop where
  slicesBy_S2048x6144_S2048x2048_0s1_0s3 : S2048x6144.SlicesBy (![0, 0] : Fin 2 → Nat) ![1, 3] S2048x2048
  slicesBy_S2048x6144_S2048x2048_0s1_1s3 : S2048x6144.SlicesBy (![0, 1] : Fin 2 → Nat) ![1, 3] S2048x2048
  slicesBy_S2048x6144_S2048x2048_0s1_2s3 : S2048x6144.SlicesBy (![0, 2] : Fin 2 → Nat) ![1, 3] S2048x2048
  slices_S2048x2048_S2048x2047_0_1 : S2048x2048.Slices ![0, 1] S2048x2047
  slices_S2048x2048_S2048x2047_0_0 : S2048x2048.Slices ![0, 0] S2048x2047
  slices_S2048x2047_S2048x2046_0_0 : S2048x2047.Slices ![0, 0] S2048x2046
  slices_S2048x2047_S2048x2046_0_1 : S2048x2047.Slices ![0, 1] S2048x2046
  bcast_S_S2048x6144 : S_.BroadcastsInDim S2048x6144 (![] : Fin 0 → Fin S2048x6144.rank)
  bcast_S_S2048x2046 : S_.BroadcastsInDim S2048x2046 (![] : Fin 0 → Fin S2048x2046.rank)
  bcast_S_S2045 : S_.BroadcastsInDim S2045 (![] : Fin 0 → Fin S2045.rank)
  bcast_S_S2045x3 : S_.BroadcastsInDim S2045x3 (![] : Fin 0 → Fin S2045x3.rank)

variable [Facts]

def fn_part4 {F : FTy → Type} [FloatOps F] (main_arg12 : IVec S2045 32) (main_arg13 : IVec S2045 32) (main_v2 : IVec S2045 32) (main_v32 : IVec S2048x6144 1) (main_v39 : IVec S2048x2046 1) (main_v41 : IVec S2045 1) (main_v43 : IVec S2045 1) (main_v45 : IVec S2045 1) (main_v48 : IVec S2045 1) (main_v54 : IVec S2045x3 1) (main_v60 : IVec S2045x3 1) (main_v64 : IVec S2045x3 1) (main_v70 : IVec S2045x3 1) (main_v75 : IVec S2045 1) (main_v77 : IVec S2045 32) (main_v78 : IVec S2045 32) : IVec S2048x6144 1 × IVec S2048x2046 1 × IVec S2045 1 × IVec S2045 1 × IVec S2045 1 × IVec S2045 1 × IVec S2045x3 1 × IVec S2045x3 1 × IVec S2045x3 1 × IVec S2045x3 1 × IVec S2045 1 × IVec S2045 1 × IVec S2045 1 :=
  let main_v79 : IVec S2045 32 := addi main_v77 main_v78
  let main_v80 : IVec S2045 1 := cmpi .eq main_arg12 main_v79
  let main_c_15 : IVec S_ 32 := constantI S_ 32 3#32
  let main_v81 : IVec S2045 32 := broadcastInDim S2045 ![] bcast_S_S2045 main_c_15
  let main_v82 : IVec S2045 32 := muli main_v81 main_v2
  let main_c_16 : IVec S_ 32 := constantI S_ 32 11#32
  let main_v83 : IVec S2045 32 := broadcastInDim S2045 ![] bcast_S_S2045 main_c_16
  let main_v84 : IVec S2045 32 := addi main_v82 main_v83
  let main_v85 : IVec S2045 1 := cmpi .eq main_arg13 main_v84
  (main_v32, main_v39, main_v41, main_v43, main_v45, main_v48, main_v54, main_v60, main_v64, main_v70, main_v75, main_v80, main_v85)

def fn_part3 {F : FTy → Type} [FloatOps F] (main_arg9 : IVec S2045x3 32) (main_arg10 : IVec S2045x3 32) (main_arg11 : IVec S2045 32) (main_arg12 : IVec S2045 32) (main_arg13 : IVec S2045 32) (main_v0 : IVec S2045x3 32) (main_v1 : IVec S2045x3 32) (main_v2 : IVec S2045 32) (main_v32 : IVec S2048x6144 1) (main_v39 : IVec S2048x2046 1) (main_v41 : IVec S2045 1) (main_v43 : IVec S2045 1) (main_v45 : IVec S2045 1) (main_v48 : IVec S2045 1) (main_v54 : IVec S2045x3 1) (main_v60 : IVec S2045x3 1) (main_c_8 : IVec S_ 32) : IVec S2048x6144 1 × IVec S2048x2046 1 × IVec S2045 1 × IVec S2045 1 × IVec S2045 1 × IVec S2045 1 × IVec S2045x3 1 × IVec S2045x3 1 × IVec S2045x3 1 × IVec S2045x3 1 × IVec S2045 1 × IVec S2045 1 × IVec S2045 1 :=
  let main_v61 : IVec S2045x3 32 := broadcastInDim S2045x3 ![] bcast_S_S2045x3 main_c_8
  let main_v62 : IVec S2045x3 32 := muli main_v61 main_v0
  let main_v63 : IVec S2045x3 32 := addi main_v62 main_v1
  let main_v64 : IVec S2045x3 1 := cmpi .eq main_arg9 main_v63
  let main_c_9 : IVec S_ 32 := constantI S_ 32 3#32
  let main_v65 : IVec S2045x3 32 := broadcastInDim S2045x3 ![] bcast_S_S2045x3 main_c_9
  let main_v66 : IVec S2045x3 32 := muli main_v65 main_v0
  let main_v67 : IVec S2045x3 32 := addi main_v66 main_v1
  let main_c_10 : IVec S_ 32 := constantI S_ 32 9#32
  let main_v68 : IVec S2045x3 32 := broadcastInDim S2045x3 ![] bcast_S_S2045x3 main_c_10
  let main_v69 : IVec S2045x3 32 := addi main_v67 main_v68
  let main_v70 : IVec S2045x3 1 := cmpi .eq main_arg10 main_v69
  let main_c_11 : IVec S_ 32 := constantI S_ 32 3#32
  let main_v71 : IVec S2045 32 := broadcastInDim S2045 ![] bcast_S_S2045 main_c_11
  let main_v72 : IVec S2045 32 := muli main_v71 main_v2
  let main_c_12 : IVec S_ 32 := constantI S_ 32 9#32
  let main_v73 : IVec S2045 32 := broadcastInDim S2045 ![] bcast_S_S2045 main_c_12
  let main_v74 : IVec S2045 32 := addi main_v72 main_v73
  let main_v75 : IVec S2045 1 := cmpi .eq main_arg11 main_v74
  let main_c_13 : IVec S_ 32 := constantI S_ 32 3#32
  let main_v76 : IVec S2045 32 := broadcastInDim S2045 ![] bcast_S_S2045 main_c_13
  let main_v77 : IVec S2045 32 := muli main_v76 main_v2
  let main_c_14 : IVec S_ 32 := constantI S_ 32 10#32
  let main_v78 : IVec S2045 32 := broadcastInDim S2045 ![] bcast_S_S2045 main_c_14
  fn_part4 (F := F) main_arg12 main_arg13 main_v2 main_v32 main_v39 main_v41 main_v43 main_v45 main_v48 main_v54 main_v60 main_v64 main_v70 main_v75 main_v77 main_v78

def fn_part2 {F : FTy → Type} [FloatOps F] (main_arg5 : FVec F S2045 .f32) (main_arg6 : FVec F S2045 .f32) (main_arg7 : IVec S2045x3 32) (main_arg8 : IVec S2045x3 32) (main_arg9 : IVec S2045x3 32) (main_arg10 : IVec S2045x3 32) (main_arg11 : IVec S2045 32) (main_arg12 : IVec S2045 32) (main_arg13 : IVec S2045 32) (main_v0 : IVec S2045x3 32) (main_v1 : IVec S2045x3 32) (main_v2 : IVec S2045 32) (main_v32 : IVec S2048x6144 1) (main_v39 : IVec S2048x2046 1) (main_v41 : IVec S2045 1) (main_v43 : IVec S2045 1) : IVec S2048x6144 1 × IVec S2048x2046 1 × IVec S2045 1 × IVec S2045 1 × IVec S2045 1 × IVec S2045 1 × IVec S2045x3 1 × IVec S2045x3 1 × IVec S2045x3 1 × IVec S2045x3 1 × IVec S2045 1 × IVec S2045 1 × IVec S2045 1 :=
  let main_cst_3 : FVec F S_ .f32 := constant S_ .f32 0x00000000#32
  let main_v44 : FVec F S2045 .f32 := broadcastInDim S2045 ![] bcast_S_S2045 main_cst_3
  let main_v45 : IVec S2045 1 := cmpf .une main_arg6 main_v44
  let main_v46 : FVec F S2045 .f32 := Host.absf main_arg5
  let main_cst_4 : FVec F S_ .f32 := constant S_ .f32 0x404CCCCD#32
  let main_v47 : FVec F S2045 .f32 := broadcastInDim S2045 ![] bcast_S_S2045 main_cst_4
  let main_v48 : IVec S2045 1 := cmpf .ole main_v46 main_v47
  let main_c : IVec S_ 32 := constantI S_ 32 3#32
  let main_v49 : IVec S2045x3 32 := broadcastInDim S2045x3 ![] bcast_S_S2045x3 main_c
  let main_v50 : IVec S2045x3 32 := muli main_v49 main_v0
  let main_v51 : IVec S2045x3 32 := addi main_v50 main_v1
  let main_c_5 : IVec S_ 32 := constantI S_ 32 6#32
  let main_v52 : IVec S2045x3 32 := broadcastInDim S2045x3 ![] bcast_S_S2045x3 main_c_5
  let main_v53 : IVec S2045x3 32 := addi main_v51 main_v52
  let main_v54 : IVec S2045x3 1 := cmpi .eq main_arg7 main_v53
  let main_c_6 : IVec S_ 32 := constantI S_ 32 3#32
  let main_v55 : IVec S2045x3 32 := broadcastInDim S2045x3 ![] bcast_S_S2045x3 main_c_6
  let main_v56 : IVec S2045x3 32 := muli main_v55 main_v0
  let main_v57 : IVec S2045x3 32 := addi main_v56 main_v1
  let main_c_7 : IVec S_ 32 := constantI S_ 32 3#32
  let main_v58 : IVec S2045x3 32 := broadcastInDim S2045x3 ![] bcast_S_S2045x3 main_c_7
  let main_v59 : IVec S2045x3 32 := addi main_v57 main_v58
  let main_v60 : IVec S2045x3 1 := cmpi .eq main_arg8 main_v59
  let main_c_8 : IVec S_ 32 := constantI S_ 32 3#32
  fn_part3 (F := F) main_arg9 main_arg10 main_arg11 main_arg12 main_arg13 main_v0 main_v1 main_v2 main_v32 main_v39 main_v41 main_v43 main_v45 main_v48 main_v54 main_v60 main_c_8

def fn_part1 {F : FTy → Type} [FloatOps F] (main_arg0 : FVec F S2048x6144 .f32) (main_arg2 : FVec F S2045 .f32) (main_arg4 : FVec F S2045 .f32) (main_arg5 : FVec F S2045 .f32) (main_arg6 : FVec F S2045 .f32) (main_arg7 : IVec S2045x3 32) (main_arg8 : IVec S2045x3 32) (main_arg9 : IVec S2045x3 32) (main_arg10 : IVec S2045x3 32) (main_arg11 : IVec S2045 32) (main_arg12 : IVec S2045 32) (main_arg13 : IVec S2045 32) (main_v0 : IVec S2045x3 32) (main_v1 : IVec S2045x3 32) (main_v2 : IVec S2045 32) (main_v15 : FVec F S2048x2046 .f32) (main_v16 : FVec F S2048x2046 .f32) (main_v17 : FVec F S2048x2046 .f32) (main_v18 : FVec F S2048x2046 .f32) (main_v19 : FVec F S2048x2046 .f32) (main_v20 : FVec F S2048x2046 .f32) (main_v23 : FVec F S2048x2046 .f32) : IVec S2048x6144 1 × IVec S2048x2046 1 × IVec S2045 1 × IVec S2045 1 × IVec S2045 1 × IVec S2045 1 × IVec S2045x3 1 × IVec S2045x3 1 × IVec S2045x3 1 × IVec S2045x3 1 × IVec S2045 1 × IVec S2045 1 × IVec S2045 1 :=
  let main_v24 : FVec F S2048x2046 .f32 := mulf main_v17 main_v18
  let main_v25 : FVec F S2048x2046 .f32 := mulf main_v15 main_v20
  let main_v26 : FVec F S2048x2046 .f32 := subf main_v24 main_v25
  let main_v27 : FVec F S2048x2046 .f32 := mulf main_v15 main_v19
  let main_v28 : FVec F S2048x2046 .f32 := mulf main_v16 main_v18
  let main_v29 : FVec F S2048x2046 .f32 := subf main_v27 main_v28
  let main_v30 : FVec F S2048x6144 .f32 := Host.absf main_arg0
  let main_cst : FVec F S_ .f32 := constant S_ .f32 0x7F800000#32
  let main_v31 : FVec F S2048x6144 .f32 := broadcastInDim S2048x6144 ![] bcast_S_S2048x6144 main_cst
  let main_v32 : IVec S2048x6144 1 := cmpf .olt main_v30 main_v31
  let main_v33 : FVec F S2048x2046 .f32 := mulf main_v23 main_v23
  let main_v34 : FVec F S2048x2046 .f32 := mulf main_v26 main_v26
  let main_v35 : FVec F S2048x2046 .f32 := addf main_v33 main_v34
  let main_v36 : FVec F S2048x2046 .f32 := mulf main_v29 main_v29
  let main_v37 : FVec F S2048x2046 .f32 := addf main_v35 main_v36
  let main_cst_0 : FVec F S_ .f32 := constant S_ .f32 0x00000000#32
  let main_v38 : FVec F S2048x2046 .f32 := broadcastInDim S2048x2046 ![] bcast_S_S2048x2046 main_cst_0
  let main_v39 : IVec S2048x2046 1 := cmpf .ogt main_v37 main_v38
  let main_cst_1 : FVec F S_ .f32 := constant S_ .f32 0x00000000#32
  let main_v40 : FVec F S2045 .f32 := broadcastInDim S2045 ![] bcast_S_S2045 main_cst_1
  let main_v41 : IVec S2045 1 := cmpf .une main_arg2 main_v40
  let main_cst_2 : FVec F S_ .f32 := constant S_ .f32 0x00000000#32
  let main_v42 : FVec F S2045 .f32 := broadcastInDim S2045 ![] bcast_S_S2045 main_cst_2
  let main_v43 : IVec S2045 1 := cmpf .une main_arg4 main_v42
  fn_part2 (F := F) main_arg5 main_arg6 main_arg7 main_arg8 main_arg9 main_arg10 main_arg11 main_arg12 main_arg13 main_v0 main_v1 main_v2 main_v32 main_v39 main_v41 main_v43

def fn {F : FTy → Type} [FloatOps F] (main_arg0 : FVec F S2048x6144 .f32) (main_arg1 : FVec F S2045 .f32) (main_arg2 : FVec F S2045 .f32) (main_arg3 : FVec F S2045 .f32) (main_arg4 : FVec F S2045 .f32) (main_arg5 : FVec F S2045 .f32) (main_arg6 : FVec F S2045 .f32) (main_arg7 : IVec S2045x3 32) (main_arg8 : IVec S2045x3 32) (main_arg9 : IVec S2045x3 32) (main_arg10 : IVec S2045x3 32) (main_arg11 : IVec S2045 32) (main_arg12 : IVec S2045 32) (main_arg13 : IVec S2045 32) : IVec S2048x6144 1 × IVec S2048x2046 1 × IVec S2045 1 × IVec S2045 1 × IVec S2045 1 × IVec S2045 1 × IVec S2045x3 1 × IVec S2045x3 1 × IVec S2045x3 1 × IVec S2045x3 1 × IVec S2045 1 × IVec S2045 1 × IVec S2045 1 :=
  let main_v0 : IVec S2045x3 32 := iotaInDim S2045x3 32 0
  let main_v1 : IVec S2045x3 32 := iotaInDim S2045x3 32 1
  let main_v2 : IVec S2045 32 := iotaInDim S2045 32 0
  let main_v3 : FVec F S2048x2048 .f32 := (Host.slice S2048x2048 ![0, 0] ![1, 3] · slicesBy_S2048x6144_S2048x2048_0s1_0s3) main_arg0
  let main_v4 : FVec F S2048x2048 .f32 := (Host.slice S2048x2048 ![0, 1] ![1, 3] · slicesBy_S2048x6144_S2048x2048_0s1_1s3) main_arg0
  let main_v5 : FVec F S2048x2048 .f32 := (Host.slice S2048x2048 ![0, 2] ![1, 3] · slicesBy_S2048x6144_S2048x2048_0s1_2s3) main_arg0
  let main_v6 : FVec F S2048x2047 .f32 := (extractStridedSlice S2048x2047 ![0, 1] · slices_S2048x2048_S2048x2047_0_1) main_v3
  let main_v7 : FVec F S2048x2047 .f32 := (extractStridedSlice S2048x2047 ![0, 0] · slices_S2048x2048_S2048x2047_0_0) main_v3
  let main_v8 : FVec F S2048x2047 .f32 := subf main_v6 main_v7
  let main_v9 : FVec F S2048x2047 .f32 := (extractStridedSlice S2048x2047 ![0, 1] · slices_S2048x2048_S2048x2047_0_1) main_v4
  let main_v10 : FVec F S2048x2047 .f32 := (extractStridedSlice S2048x2047 ![0, 0] · slices_S2048x2048_S2048x2047_0_0) main_v4
  let main_v11 : FVec F S2048x2047 .f32 := subf main_v9 main_v10
  let main_v12 : FVec F S2048x2047 .f32 := (extractStridedSlice S2048x2047 ![0, 1] · slices_S2048x2048_S2048x2047_0_1) main_v5
  let main_v13 : FVec F S2048x2047 .f32 := (extractStridedSlice S2048x2047 ![0, 0] · slices_S2048x2048_S2048x2047_0_0) main_v5
  let main_v14 : FVec F S2048x2047 .f32 := subf main_v12 main_v13
  let main_v15 : FVec F S2048x2046 .f32 := (extractStridedSlice S2048x2046 ![0, 0] · slices_S2048x2047_S2048x2046_0_0) main_v8
  let main_v16 : FVec F S2048x2046 .f32 := (extractStridedSlice S2048x2046 ![0, 0] · slices_S2048x2047_S2048x2046_0_0) main_v11
  let main_v17 : FVec F S2048x2046 .f32 := (extractStridedSlice S2048x2046 ![0, 0] · slices_S2048x2047_S2048x2046_0_0) main_v14
  let main_v18 : FVec F S2048x2046 .f32 := (extractStridedSlice S2048x2046 ![0, 1] · slices_S2048x2047_S2048x2046_0_1) main_v8
  let main_v19 : FVec F S2048x2046 .f32 := (extractStridedSlice S2048x2046 ![0, 1] · slices_S2048x2047_S2048x2046_0_1) main_v11
  let main_v20 : FVec F S2048x2046 .f32 := (extractStridedSlice S2048x2046 ![0, 1] · slices_S2048x2047_S2048x2046_0_1) main_v14
  let main_v21 : FVec F S2048x2046 .f32 := mulf main_v16 main_v20
  let main_v22 : FVec F S2048x2046 .f32 := mulf main_v17 main_v19
  let main_v23 : FVec F S2048x2046 .f32 := subf main_v21 main_v22
  fn_part1 (F := F) main_arg0 main_arg2 main_arg4 main_arg5 main_arg6 main_arg7 main_arg8 main_arg9 main_arg10 main_arg11 main_arg12 main_arg13 main_v0 main_v1 main_v2 main_v15 main_v16 main_v17 main_v18 main_v19 main_v20 main_v23
-- ==== Kernel.lean ====
abbrev S2048x6144 : Shape := ⟨2, ![2048, 6144]⟩
abbrev S2045 : Shape := ⟨1, ![2045]⟩
abbrev S2045x3 : Shape := ⟨2, ![2045, 3]⟩
abbrev S1x2045 : Shape := ⟨2, ![1, 2045]⟩
abbrev S6x2045 : Shape := ⟨2, ![6, 2045]⟩
abbrev S3x2045 : Shape := ⟨2, ![3, 2045]⟩
abbrev S_ : Shape := ⟨0, ![]⟩
abbrev S3x3 : Shape := ⟨2, ![3, 3]⟩
abbrev S6x3 : Shape := ⟨2, ![6, 3]⟩
abbrev S6x2048 : Shape := ⟨2, ![6, 2048]⟩
abbrev S6x2048x1 : Shape := ⟨3, ![6, 2048, 1]⟩
abbrev S6x2048x128 : Shape := ⟨3, ![6, 2048, 128]⟩
abbrev S128x6144 : Shape := ⟨2, ![128, 6144]⟩
abbrev S6144x128 : Shape := ⟨2, ![6144, 128]⟩
abbrev S6150x128 : Shape := ⟨2, ![6150, 128]⟩
abbrev S2048x128 : Shape := ⟨2, ![2048, 128]⟩
abbrev S1x2048x128 : Shape := ⟨3, ![1, 2048, 128]⟩
abbrev S128x9 : Shape := ⟨2, ![128, 9]⟩

abbrev nBuf : Space → Nat
  | .hbm => 36
  | .vmem => 7
  | .smem => 0
  | _ => 0

abbrev bufTy : (tb : Table) → Fin (tcTables nBuf tb) → BufTy
  | .hbm, ⟨0, _⟩ => ⟨S2048x6144, .f32⟩
  | .hbm, ⟨1, _⟩ => ⟨S2045, .f32⟩
  | .hbm, ⟨2, _⟩ => ⟨S2045, .f32⟩
  | .hbm, ⟨3, _⟩ => ⟨S2045, .f32⟩
  | .hbm, ⟨4, _⟩ => ⟨S2045, .f32⟩
  | .hbm, ⟨5, _⟩ => ⟨S2045, .f32⟩
  | .hbm, ⟨6, _⟩ => ⟨S2045, .f32⟩
  | .hbm, ⟨7, _⟩ => ⟨S2045x3, .i32⟩
  | .hbm, ⟨8, _⟩ => ⟨S2045x3, .i32⟩
  | .hbm, ⟨9, _⟩ => ⟨S2045x3, .i32⟩
  | .hbm, ⟨10, _⟩ => ⟨S2045x3, .i32⟩
  | .hbm, ⟨11, _⟩ => ⟨S2045, .i32⟩
  | .hbm, ⟨12, _⟩ => ⟨S2045, .i32⟩
  | .hbm, ⟨13, _⟩ => ⟨S2045, .i32⟩
  | .hbm, ⟨14, _⟩ => ⟨S1x2045, .f32⟩
  | .hbm, ⟨15, _⟩ => ⟨S1x2045, .f32⟩
  | .hbm, ⟨16, _⟩ => ⟨S1x2045, .f32⟩
  | .hbm, ⟨17, _⟩ => ⟨S1x2045, .f32⟩
  | .hbm, ⟨18, _⟩ => ⟨S1x2045, .f32⟩
  | .hbm, ⟨19, _⟩ => ⟨S1x2045, .f32⟩
  | .hbm, ⟨20, _⟩ => ⟨S6x2045, .f32⟩
  | .hbm, ⟨21, _⟩ => ⟨S3x2045, .f32⟩
  | .hbm, ⟨22, _⟩ => ⟨S3x2045, .f32⟩
  | .hbm, ⟨23, _⟩ => ⟨S_, .f32⟩
  | .hbm, ⟨24, _⟩ => ⟨S3x2045, .f32⟩
  | .hbm, ⟨25, _⟩ => ⟨S3x2045, .f32⟩
  | .hbm, ⟨26, _⟩ => ⟨S6x2045, .f32⟩
  | .hbm, ⟨27, _⟩ => ⟨S_, .f32⟩
  | .hbm, ⟨28, _⟩ => ⟨S3x3, .f32⟩
  | .hbm, ⟨29, _⟩ => ⟨S_, .f32⟩
  | .hbm, ⟨30, _⟩ => ⟨S3x3, .f32⟩
  | .hbm, ⟨31, _⟩ => ⟨S6x3, .f32⟩
  | .hbm, ⟨32, _⟩ => ⟨S6x2048, .f32⟩
  | .hbm, ⟨33, _⟩ => ⟨S6x2048x1, .f32⟩
  | .hbm, ⟨34, _⟩ => ⟨S6x2048x128, .f32⟩
  | .hbm, ⟨35, _⟩ => ⟨S2048x6144, .f32⟩
  | .local _ .vmem, ⟨0, _⟩ => ⟨S128x6144, .f32⟩
  | .local _ .vmem, ⟨1, _⟩ => ⟨S128x6144, .f32⟩
  | .local _ .vmem, ⟨2, _⟩ => ⟨S6x2048x128, .f32⟩
  | .local _ .vmem, ⟨3, _⟩ => ⟨S128x6144, .f32⟩
  | .local _ .vmem, ⟨4, _⟩ => ⟨S128x6144, .f32⟩
  | .local _ .vmem, ⟨5, _⟩ => ⟨S6144x128, .f32⟩
  | .local _ .vmem, ⟨6, _⟩ => ⟨S6150x128, .f32⟩
  | _, _ => ⟨S2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_0 : Ref sig .tc := ⟨.hbm, 27, rfl⟩
abbrev main_v12 : Ref sig .tc := ⟨.hbm, 28, rfl⟩
abbrev main_cst_1 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x6144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x6144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KernelIdeal.lean ====
variable {F : FTy → Type} [FloatOps F] [Named F]
def κ : String → Option EReal := fun
  | "inv_two_pi" => some ((2097152 / 13176795 : ℝ) : EReal)
  | _ => none
-- ==== ReferenceIdeal.lean ====
abbrev S2048x6144 : Shape := ⟨2, ![2048, 6144]⟩
abbrev S2045 : Shape := ⟨1, ![2045]⟩
abbrev S2045x3 : Shape := ⟨2, ![2045, 3]⟩
abbrev S_ : Shape := ⟨0, ![]⟩
abbrev S2045x3x1 : Shape := ⟨3, ![2045, 3, 1]⟩
abbrev S2048x2045x3 : Shape := ⟨3, ![2048, 2045, 3]⟩
abbrev S2048x2045 : Shape := ⟨2, ![2048, 2045]⟩
abbrev S2048x2045x1 : Shape := ⟨3, ![2048, 2045, 1]⟩
abbrev S2045x1 : Shape := ⟨2, ![2045, 1]⟩
abbrev S1x2045 : Shape := ⟨2, ![1, 2045]⟩

abbrev nBuf : Space → Nat
  | .hbm => 319
  | .vmem => 0
  | .smem => 0
  | _ => 0

abbrev hbmTy0_0 (i : Nat) : BufTy := match i % 128 with
  | 0 => ⟨S2048x6144, .f32⟩
  | 1 => ⟨S2045, .f32⟩
  | 2 => ⟨S2045, .f32⟩
  | 3 => ⟨S2045, .f32⟩
  | 4 => ⟨S2045, .f32⟩
  | 5 => ⟨S2045, .f32⟩
  | 6 => ⟨S2045, .f32⟩
  | 7 => ⟨S2045x3, .i32⟩
  | 8 => ⟨S2045x3, .i32⟩
  | 9 => ⟨S2045x3, .i32⟩
  | 10 => ⟨S2045x3, .i32⟩
  | 11 => ⟨S2045, .i32⟩
  | 12 => ⟨S2045, .i32⟩
  | 13 => ⟨S2045, .i32⟩
  | 14 => ⟨S_, .i32⟩
  | 15 => ⟨S2045x3, .i32⟩
  | 16 => ⟨S2045x3, .i1⟩
  | 17 => ⟨S_, .i32⟩
  | 18 => ⟨S2045x3, .i32⟩
  | 19 => ⟨S2045x3, .i32⟩
  | 20 => ⟨S2045x3, .i32⟩
  | 21 => ⟨S2045x3x1, .i32⟩
  | 22 => ⟨S2048x2045x3, .f32⟩
  | 23 => ⟨S_, .i32⟩
  | 24 => ⟨S2045x3, .i32⟩
  | 25 => ⟨S2045x3, .i1⟩
  | 26 => ⟨S_, .i32⟩
  | 27 => ⟨S2045x3, .i32⟩
  | 28 => ⟨S2045x3, .i32⟩
  | 29 => ⟨S2045x3, .i32⟩
  | 30 => ⟨S2045x3x1, .i32⟩
  | 31 => ⟨S2048x2045x3, .f32⟩
  | 32 => ⟨S_, .i32⟩
  | 33 => ⟨S2045x3, .i32⟩
  | 34 => ⟨S2045x3, .i1⟩
  | 35 => ⟨S_, .i32⟩
  | 36 => ⟨S2045x3, .i32⟩
  | 37 => ⟨S2045x3, .i32⟩
  | 38 => ⟨S2045x3, .i32⟩
  | 39 => ⟨S2045x3x1, .i32⟩
  | 40 => ⟨S2048x2045x3, .f32⟩
  | 41 => ⟨S_, .i32⟩
  | 42 => ⟨S2045x3, .i32⟩
  | 43 => ⟨S2045x3, .i1⟩
  | 44 => ⟨S_, .i32⟩
  | 45 => ⟨S2045x3, .i32⟩
  | 46 => ⟨S2045x3, .i32⟩
  | 47 => ⟨S2045x3, .i32⟩
  | 48 => ⟨S2045x3x1, .i32⟩
  | 49 => ⟨S2048x2045x3, .f32⟩
  | 50 => ⟨S2048x2045x3, .f32⟩
  | 51 => ⟨S2048x2045x3, .f32⟩
  | 52 => ⟨S_, .f32⟩
  | 53 => ⟨S2048x2045, .f32⟩
  | 54 => ⟨S2048x2045, .f32⟩
  | 55 => ⟨S2048x2045x3, .f32⟩
  | 56 => ⟨S2048x2045x3, .f32⟩
  | 57 => ⟨S_, .f32⟩
  | 58 => ⟨S2048x2045, .f32⟩
  | 59 => ⟨S2048x2045x1, .f32⟩
  | 60 => ⟨S2048x2045x1, .f32⟩
  | 61 => ⟨S2048x2045x3, .f32⟩
  | 62 => ⟨S2048x2045x3, .f32⟩
  | 63 => ⟨S2048x2045x3, .f32⟩
  | 64 => ⟨S2048x2045x3, .f32⟩
  | 65 => ⟨S_, .f32⟩
  | 66 => ⟨S2048x2045, .f32⟩
  | 67 => ⟨S2048x2045x1, .f32⟩
  | 68 => ⟨S2048x2045x1, .f32⟩
  | 69 => ⟨S2048x2045x3, .f32⟩
  | 70 => ⟨S2048x2045x3, .f32⟩
  | 71 => ⟨S2048x2045x3, .f32⟩
  | 72 => ⟨S_, .f32⟩
  | 73 => ⟨S2048x2045, .f32⟩
  | 74 => ⟨S2048x2045, .f32⟩
  | 75 => ⟨S_, .f32⟩
  | 76 => ⟨S2048x2045, .f32⟩
  | 77 => ⟨S2048x2045, .f32⟩
  | 78 => ⟨S_, .f32⟩
  | 79 => ⟨S2048x2045, .f32⟩
  | 80 => ⟨S2048x2045, .f32⟩
  | 81 => ⟨S2048x2045, .f32⟩
  | 82 => ⟨S_, .f32⟩
  | 83 => ⟨S2048x2045, .f32⟩
  | 84 => ⟨S2048x2045, .f32⟩
  | 85 => ⟨S_, .f32⟩
  | 86 => ⟨S2048x2045, .f32⟩
  | 87 => ⟨S2048x2045, .f32⟩
  | 88 => ⟨S2048x2045, .f32⟩
  | 89 => ⟨S_, .f32⟩
  | 90 => ⟨S2048x2045, .f32⟩
  | 91 => ⟨S2048x2045, .f32⟩
  | 92 => ⟨S2048x2045, .f32⟩
  | 93 => ⟨S_, .f32⟩
  | 94 => ⟨S2048x2045, .f32⟩
  | 95 => ⟨S2048x2045, .f32⟩
  | 96 => ⟨S2048x2045, .f32⟩
  | 97 => ⟨S_, .f32⟩
  | 98 => ⟨S2048x2045, .f32⟩
  | 99 => ⟨S2048x2045, .i1⟩
  | 100 => ⟨S_, .f32⟩
  | 101 => ⟨S2048x2045, .f32⟩
  | 102 => ⟨S2048x2045, .f32⟩
  | 103 => ⟨S2048x2045, .f32⟩
  | 104 => ⟨S2048x2045x3, .f32⟩
  | 105 => ⟨S2048x2045x3, .f32⟩
  | 106 => ⟨S2048x2045x3, .f32⟩
  | 107 => ⟨S_, .f32⟩
  | 108 => ⟨S2048x2045, .f32⟩
  | 109 => ⟨S2048x2045x1, .f32⟩
  | 110 => ⟨S2048x2045x1, .f32⟩
  | 111 => ⟨S2048x2045x3, .f32⟩
  | 112 => ⟨S2048x2045x3, .f32⟩
  | 113 => ⟨S2048x2045x3, .f32⟩
  | 114 => ⟨S2048x2045x3, .f32⟩
  | 115 => ⟨S_, .f32⟩
  | 116 => ⟨S2048x2045, .f32⟩
  | 117 => ⟨S2048x2045x1, .f32⟩
  | 118 => ⟨S2048x2045x3, .f32⟩
  | 119 => ⟨S2048x2045x3, .f32⟩
  | 120 => ⟨S2048x2045x3, .f32⟩
  | 121 => ⟨S2048x2045x3, .f32⟩
  | 122 => ⟨S_, .f32⟩
  | 123 => ⟨S2048x2045, .f32⟩
  | 124 => ⟨S2048x2045x1, .f32⟩
  | 125 => ⟨S2048x2045x3, .f32⟩
  | 126 => ⟨S2048x2045x3, .f32⟩
  | 127 => ⟨S2048x2045x3, .f32⟩
  | _ => ⟨S2048x6144, .f32⟩

abbrev hbmTy0_1 (i : Nat) : BufTy := match i % 128 with
  | 0 => ⟨S2048x2045x3, .f32⟩
  | 1 => ⟨S_, .f32⟩
  | 2 => ⟨S2048x2045, .f32⟩
  | 3 => ⟨S2048x2045x1, .f32⟩
  | 4 => ⟨S2048x2045, .f32⟩
  | 5 => ⟨S2048x2045x1, .f32⟩
  | 6 => ⟨S2048x2045, .f32⟩
  | 7 => ⟨S2048x2045x1, .f32⟩
  | 8 => ⟨S2048x2045, .f32⟩
  | 9 => ⟨S2048x2045x1, .f32⟩
  | 10 => ⟨S2048x2045, .f32⟩
  | 11 => ⟨S2048x2045x1, .f32⟩
  | 12 => ⟨S2048x2045, .f32⟩
  | 13 => ⟨S2048x2045x1, .f32⟩
  | 14 => ⟨S2048x2045, .f32⟩
  | 15 => ⟨S2048x2045, .f32⟩
  | 16 => ⟨S2048x2045, .f32⟩
  | 17 => ⟨S2048x2045, .f32⟩
  | 18 => ⟨S2048x2045, .f32⟩
  | 19 => ⟨S2048x2045, .f32⟩
  | 20 => ⟨S2048x2045, .f32⟩
  | 21 => ⟨S2048x2045, .f32⟩
  | 22 => ⟨S2048x2045, .f32⟩
  | 23 => ⟨S2048x2045, .f32⟩
  | 24 => ⟨S2048x2045x1, .f32⟩
  | 25 => ⟨S2048x2045x1, .f32⟩
  | 26 => ⟨S2048x2045x1, .f32⟩
  | 27 => ⟨S2048x2045x3, .f32⟩
  | 28 => ⟨S2048x2045x3, .f32⟩
  | 29 => ⟨S_, .f32⟩
  | 30 => ⟨S2048x2045, .f32⟩
  | 31 => ⟨S2048x2045, .f32⟩
  | 32 => ⟨S2048x2045, .f32⟩
  | 33 => ⟨S2048x2045, .f32⟩
  | 34 => ⟨S2048x2045, .f32⟩
  | 35 => ⟨S2048x2045, .f32⟩
  | 36 => ⟨S2048x2045, .f32⟩
  | 37 => ⟨S2048x2045, .f32⟩
  | 38 => ⟨S2048x2045, .f32⟩
  | 39 => ⟨S_, .f32⟩
  | 40 => ⟨S2048x2045, .f32⟩
  | 41 => ⟨S2048x2045, .f32⟩
  | 42 => ⟨S_, .f32⟩
  | 43 => ⟨S2048x2045, .f32⟩
  | 44 => ⟨S2048x2045, .f32⟩
  | 45 => ⟨S2048x2045, .f32⟩
  | 46 => ⟨S_, .f32⟩
  | 47 => ⟨S2048x2045, .f32⟩
  | 48 => ⟨S2048x2045, .f32⟩
  | 49 => ⟨S2048x2045, .f32⟩
  | 50 => ⟨S_, .f32⟩
  | 51 => ⟨S2048x2045, .f32⟩
  | 52 => ⟨S2048x2045, .f32⟩
  | 53 => ⟨S2048x2045, .f32⟩
  | 54 => ⟨S_, .f32⟩
  | 55 => ⟨S2048x2045, .f32⟩
  | 56 => ⟨S2048x2045, .f32⟩
  | 57 => ⟨S2048x2045, .f32⟩
  | 58 => ⟨S2048x2045, .f32⟩
  | 59 => ⟨S2048x2045, .f32⟩
  | 60 => ⟨S2048x2045, .i1⟩
  | 61 => ⟨S_, .f32⟩
  | 62 => ⟨S2048x2045, .f32⟩
  | 63 => ⟨S2048x2045, .f32⟩
  | 64 => ⟨S2048x2045, .f32⟩
  | 65 => ⟨S_, .f32⟩
  | 66 => ⟨S2048x2045, .f32⟩
  | 67 => ⟨S2048x2045, .i1⟩
  | 68 => ⟨S_, .f32⟩
  | 69 => ⟨S2048x2045, .f32⟩
  | 70 => ⟨S2048x2045, .f32⟩
  | 71 => ⟨S2048x2045, .f32⟩
  | 72 => ⟨S_, .f32⟩
  | 73 => ⟨S2048x2045, .f32⟩
  | 74 => ⟨S2048x2045, .i1⟩
  | 75 => ⟨S2048x2045, .f32⟩
  | 76 => ⟨S2048x2045, .f32⟩
  | 77 => ⟨S2048x2045, .f32⟩
  | 78 => ⟨S_, .i32⟩
  | 79 => ⟨S2045, .i32⟩
  | 80 => ⟨S2045, .i1⟩
  | 81 => ⟨S_, .i32⟩
  | 82 => ⟨S2045, .i32⟩
  | 83 => ⟨S2045, .i32⟩
  | 84 => ⟨S2045, .i32⟩
  | 85 => ⟨S2045x1, .i32⟩
  | 86 => ⟨S2048x6144, .f32⟩
  | 87 => ⟨S_, .i32⟩
  | 88 => ⟨S2045, .i32⟩
  | 89 => ⟨S2045, .i1⟩
  | 90 => ⟨S_, .i32⟩
  | 91 => ⟨S2045, .i32⟩
  | 92 => ⟨S2045, .i32⟩
  | 93 => ⟨S2045, .i32⟩
  | 94 => ⟨S2045x1, .i32⟩
  | 95 => ⟨S2048x6144, .f32⟩
  | 96 => ⟨S_, .i32⟩
  | 97 => ⟨S2045, .i32⟩
  | 98 => ⟨S2045, .i1⟩
  | 99 => ⟨S_, .i32⟩
  | 100 => ⟨S2045, .i32⟩
  | 101 => ⟨S2045, .i32⟩
  | 102 => ⟨S2045, .i32⟩
  | 103 => ⟨S2045x1, .i32⟩
  | 104 => ⟨S2048x6144, .f32⟩
  | 105 => ⟨S_, .i32⟩
  | 106 => ⟨S2045, .i32⟩
  | 107 => ⟨S2045, .i1⟩
  | 108 => ⟨S_, .i32⟩
  | 109 => ⟨S2045, .i32⟩
  | 110 => ⟨S2045, .i32⟩
  | 111 => ⟨S2045, .i32⟩
  | 112 => ⟨S2045x1, .i32⟩
  | 113 => ⟨S2048x2045, .f32⟩
  | 114 => ⟨S1x2045, .f32⟩
  | 115 => ⟨S2048x2045, .f32⟩
  | 116 => ⟨S2048x2045, .f32⟩
  | 117 => ⟨S1x2045, .f32⟩
  | 118 => ⟨S2048x2045, .f32⟩
  | 119 => ⟨S2048x2045, .f32⟩
  | 120 => ⟨S_, .i32⟩
  | 121 => ⟨S2045, .i32⟩
  | 122 => ⟨S2045, .i1⟩
  | 123 => ⟨S_, .i32⟩
  | 124 => ⟨S2045, .i32⟩
  | 125 => ⟨S2045, .i32⟩
  | 126 => ⟨S2045, .i32⟩
  | 127 => ⟨S2045x1, .i32⟩
  | _ => ⟨S2048x6144, .f32⟩

abbrev hbmTy0_2 (i : Nat) : BufTy := match i % 128 with
  | 0 => ⟨S2048x6144, .f32⟩
  | 1 => ⟨S_, .i32⟩
  | 2 => ⟨S2045, .i32⟩
  | 3 => ⟨S2045, .i1⟩
  | 4 => ⟨S_, .i32⟩
  | 5 => ⟨S2045, .i32⟩
  | 6 => ⟨S2045, .i32⟩
  | 7 => ⟨S2045, .i32⟩
  | 8 => ⟨S2045x1, .i32⟩
  | 9 => ⟨S2048x2045, .f32⟩
  | 10 => ⟨S1x2045, .f32⟩
  | 11 => ⟨S2048x2045, .f32⟩
  | 12 => ⟨S2048x2045, .f32⟩
  | 13 => ⟨S1x2045, .f32⟩
  | 14 => ⟨S2048x2045, .f32⟩
  | 15 => ⟨S2048x2045, .f32⟩
  | 16 => ⟨S_, .i32⟩
  | 17 => ⟨S2045, .i32⟩
  | 18 => ⟨S2045, .i1⟩
  | 19 => ⟨S_, .i32⟩
  | 20 => ⟨S2045, .i32⟩
  | 21 => ⟨S2045, .i32⟩
  | 22 => ⟨S2045, .i32⟩
  | 23 => ⟨S2045x1, .i32⟩
  | 24 => ⟨S2048x6144, .f32⟩
  | 25 => ⟨S_, .i32⟩
  | 26 => ⟨S2045, .i32⟩
  | 27 => ⟨S2045, .i1⟩
  | 28 => ⟨S_, .i32⟩
  | 29 => ⟨S2045, .i32⟩
  | 30 => ⟨S2045, .i32⟩
  | 31 => ⟨S2045, .i32⟩
  | 32 => ⟨S2045x1, .i32⟩
  | 33 => ⟨S2048x2045, .f32⟩
  | 34 => ⟨S1x2045, .f32⟩
  | 35 => ⟨S2048x2045, .f32⟩
  | 36 => ⟨S2048x2045, .f32⟩
  | 37 => ⟨S_, .f32⟩
  | 38 => ⟨S2048x2045, .f32⟩
  | 39 => ⟨S2048x2045, .i1⟩
  | 40 => ⟨S_, .f32⟩
  | 41 => ⟨S2048x2045, .f32⟩
  | 42 => ⟨S2048x2045, .f32⟩
  | 43 => ⟨S2048x2045, .f32⟩
  | 44 => ⟨S_, .f32⟩
  | 45 => ⟨S2048x2045, .f32⟩
  | 46 => ⟨S2048x2045, .i1⟩
  | 47 => ⟨S_, .f32⟩
  | 48 => ⟨S2048x2045, .f32⟩
  | 49 => ⟨S2048x2045, .f32⟩
  | 50 => ⟨S2048x2045, .f32⟩
  | 51 => ⟨S1x2045, .f32⟩
  | 52 => ⟨S2048x2045, .f32⟩
  | 53 => ⟨S2048x2045, .f32⟩
  | 54 => ⟨S_, .i32⟩
  | 55 => ⟨S2045, .i32⟩
  | 56 => ⟨S2045, .i1⟩
  | 57 => ⟨S_, .i32⟩
  | 58 => ⟨S2045, .i32⟩
  | 59 => ⟨S2045, .i32⟩
  | 60 => ⟨S2045, .i32⟩
  | 61 => ⟨S2045x1, .i32⟩
  | 62 => ⟨S2048x6144, .f32⟩
  | _ => ⟨S2048x6144, .f32⟩

abbrev hbmTy (i : Nat) : BufTy := match i / 128 with
  | 0 => hbmTy0_0 i
  | 1 => hbmTy0_1 i
  | 2 => hbmTy0_2 i
  | _ => ⟨S2048x6144, .f32⟩

abbrev bufTy : (tb : Table) → Fin (tcTables nBuf tb) → BufTy
  | .hbm, ⟨i, _⟩ => hbmTy i
  | _, _ => ⟨S2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_c_1 : Ref sig .tc := ⟨.hbm, 23, rfl⟩
abbrev main_v7 : Ref sig .tc := ⟨.hbm, 24, rfl⟩
abbrev main_v8 : Ref sig .tc := ⟨.hbm, 25, rfl⟩
abbrev main_c_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c_3 : Ref sig .tc := ⟨.hbm, 32, rfl⟩
abbrev main_v14 : Ref sig .tc := ⟨.hbm, 33, rfl⟩
abbrev main_v15 : Ref sig .tc := ⟨.hbm, 34, rfl⟩
abbrev main_c_4 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c_5 : Ref sig .tc := ⟨.hbm, 41, rfl⟩
abbrev main_v21 : Ref sig .tc := ⟨.hbm, 42, rfl⟩
abbrev main_v22 : Ref sig .tc := ⟨.hbm, 43, rfl⟩
abbrev main_c_6 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_call0_v0 : Ref sig .tc := ⟨.hbm, 51, rfl⟩
abbrev main_call0_cst : Ref sig .tc := ⟨.hbm, 52, rfl⟩
abbrev main_call0_v1 : Ref sig .tc := ⟨.hbm, 53, rfl⟩
abbrev main_v29 : Ref sig .tc := ⟨.hbm, 54, rfl⟩
abbrev main_v30 : Ref sig .tc := ⟨.hbm, 55, rfl⟩
abbrev main_call1_v0 : Ref sig .tc := ⟨.hbm, 56, rfl⟩
abbrev main_call1_cst : Ref sig .tc := ⟨.hbm, 57, rfl⟩
abbrev main_call1_v1 : Ref sig .tc := ⟨.hbm, 58, rfl⟩
abbrev main_call1_v2 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_call2_v0 : Ref sig .tc := ⟨.hbm, 64, rfl⟩
abbrev main_call2_cst : Ref sig .tc := ⟨.hbm, 65, rfl⟩
abbrev main_call2_v1 : Ref sig .tc := ⟨.hbm, 66, rfl⟩
abbrev main_call2_v2 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_cst : Ref sig .tc := ⟨.hbm, 72, rfl⟩
abbrev main_v39 : Ref sig .tc := ⟨.hbm, 73, rfl⟩
abbrev main_v40 : Ref sig .tc := ⟨.hbm, 74, rfl⟩
abbrev main_cst_7 : Ref sig .tc := ⟨.hbm, 75, rfl⟩
abbrev main_v41 : Ref sig .tc := ⟨.hbm, 76, rfl⟩
abbrev main_v42 : Ref sig .tc := ⟨.hbm, 77, rfl⟩
abbrev main_cst_8 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_cst_9 : Ref sig .tc := ⟨.hbm, 82, rfl⟩
abbrev main_v46 : Ref sig .tc := ⟨.hbm, 83, rfl⟩
abbrev main_v47 : Ref sig .tc := ⟨.hbm, 84, rfl⟩
abbrev main_cst_10 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_cst_11 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_cst_12 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_cst_13 : Ref sig .tc := ⟨.hbm, 97, rfl⟩
abbrev main_v57 : Ref sig .tc := ⟨.hbm, 98, rfl⟩
abbrev main_v58 : Ref sig .tc := ⟨.hbm, 99, rfl⟩
abbrev main_cst_14 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_call4_v0 : Ref sig .tc := ⟨.hbm, 106, rfl⟩
abbrev main_call4_cst : Ref sig .tc := ⟨.hbm, 107, rfl⟩
abbrev main_call4_v1 : Ref sig .tc := ⟨.hbm, 108, rfl⟩
abbrev main_call4_v2 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_cst_15 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_cst_16 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_cst_17 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_cst_18 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_cst_19 : Ref sig .tc := ⟨.hbm, 167, rfl⟩
abbrev main_v117 : Ref sig .tc := ⟨.hbm, 168, rfl⟩
abbrev main_v118 : Ref sig .tc := ⟨.hbm, 169, rfl⟩
abbrev main_cst_20 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_cst_21 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_cst_22 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_cst_23 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_cst_24 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_cst_25 : Ref sig .tc := ⟨.hbm, 193, rfl⟩
abbrev main_v137 : Ref sig .tc := ⟨.hbm, 194, rfl⟩
abbrev main_v138 : Ref sig .tc := ⟨.hbm, 195, rfl⟩
abbrev main_cst_26 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_cst_27 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_c_28 : Ref sig .tc := ⟨.hbm, 206, rfl⟩
abbrev main_v147 : Ref sig .tc := ⟨.hbm, 207, rfl⟩
abbrev main_v148 : Ref sig .tc := ⟨.hbm, 208, rfl⟩
abbrev main_c_29 : Ref sig .tc := ⟨.hbm, 209, rfl⟩
abbrev main_v149 : Ref sig .tc := ⟨.hbm, 210, rfl⟩
abbrev main_v150 : Ref sig .tc := ⟨.hbm, 211, rfl⟩
abbrev main_v151 : Ref sig .tc := ⟨.hbm, 212, rfl⟩
abbrev main_v152 : Ref sig .tc := ⟨.hbm, 213, rfl⟩
abbrev main_v153 : Ref sig .tc := ⟨.hbm, 214, rfl⟩
abbrev main_c_30 : Ref sig .tc := ⟨.hbm, 215, rfl⟩
abbrev main_v154 : Ref sig .tc := ⟨.hbm, 216, rfl⟩
abbrev main_v155 : Ref sig .tc := ⟨.hbm, 217, rfl⟩
abbrev main_c_31 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_v160 : Ref sig .tc := ⟨.hbm, 223, rfl⟩
abbrev main_c_32 : Ref sig .tc := ⟨.hbm, 224, rfl⟩
abbrev main_v161 : Ref sig .tc := ⟨.hbm, 225, rfl⟩
abbrev main_v162 : Ref sig .tc := ⟨.hbm, 226, rfl⟩
abbrev main_c_33 : Ref sig .tc := ⟨.hbm, 227, rfl⟩
abbrev main_v163 : Ref sig .tc := ⟨.hbm, 228, rfl⟩
abbrev main_v164 : Ref sig .tc := ⟨.hbm, 229, rfl⟩
abbrev main_v165 : Ref sig .tc := ⟨.hbm, 230, rfl⟩
abbrev main_v166 : Ref sig .tc := ⟨.hbm, 231, rfl⟩
abbrev main_v167 : Ref sig .tc := ⟨.hbm, 232, rfl⟩
abbrev main_c_34 : Ref sig .tc := ⟨.hbm, 233, rfl⟩
abbrev main_v168 : Ref sig .tc := ⟨.hbm, 234, rfl⟩
abbrev main_v169 : Ref sig .tc := ⟨.hbm, 235, rfl⟩
abbrev main_c_35 : Ref sig .tc := ⟨.hbm, 236, rfl⟩
abbrev main_v170 : Ref sig .tc := ⟨.hbm, 237, rfl⟩
abbrev main_v171 : Ref sig .tc := ⟨.hbm, 238, rfl⟩
abbrev main_v172 : Ref sig .tc := ⟨.hbm, 239, rfl⟩
abbrev main_v173 : Ref sig .tc := ⟨.hbm, 240, rfl⟩
abbrev main_v174 : Ref sig .tc := ⟨.hbm, 241, rfl⟩
abbrev main_v175 : Ref sig .tc := ⟨.hbm, 242, rfl⟩
abbrev main_v176 : Ref sig .tc := ⟨.hbm, 243, rfl⟩
abbrev main_v177 : Ref sig .tc := ⟨.hbm, 244, rfl⟩
abbrev main_v178 : Ref sig .tc := ⟨.hbm, 245, rfl⟩
abbrev main_v179 : Ref sig .tc := ⟨.hbm, 246, rfl⟩
abbrev main_v180 : Ref sig .tc := ⟨.hbm, 247, rfl⟩
abbrev main_c_36 : Ref sig .tc := ⟨.hbm, 248, rfl⟩
abbrev main_v181 : Ref sig .tc := ⟨.hbm, 249, rfl⟩
abbrev main_v182 : Ref sig .tc := ⟨.hbm, 250, rfl⟩
abbrev main_c_37 : Ref sig .tc := ⟨.hbm, 251, rfl⟩
abbrev main_v183 : Ref sig .tc := ⟨.hbm, 252, rfl⟩
abbrev main_v184 : Ref sig .tc := ⟨.hbm, 253, rfl⟩
abbrev main_v185 : Ref sig .tc := ⟨.hbm, 254, rfl⟩
abbrev main_v186 : Ref sig .tc := ⟨.hbm, 255, rfl⟩
abbrev main_v187 : Ref sig .tc := ⟨.hbm, 256, rfl⟩
abbrev main_c_38 : Ref sig .tc := ⟨.hbm, 257, rfl⟩
abbrev main_v188 : Ref sig .tc := ⟨.hbm, 258, rfl⟩
abbrev main_v189 : Ref sig .tc := ⟨.hbm, 259, rfl⟩
abbrev main_c_39 : Ref sig .tc := ⟨.hbm, 260, rfl⟩
abbrev main_v190 : Ref sig .tc := ⟨.hbm, 261, rfl⟩
abbrev main_v191 : Ref sig .tc := ⟨.hbm, 262, rfl⟩
abbrev main_v192 : Ref sig .tc := ⟨.hbm, 263, rfl⟩
abbrev main_v193 : Ref sig .tc := ⟨.hbm, 264, rfl⟩
abbrev main_v194 : Ref sig .tc := ⟨.hbm, 265, rfl⟩
abbrev main_v195 : Ref sig .tc := ⟨.hbm, 266, rfl⟩
abbrev main_v196 : Ref sig .tc := ⟨.hbm, 267, rfl⟩
abbrev main_v197 : Ref sig .tc := ⟨.hbm, 268, rfl⟩
abbrev main_v198 : Ref sig .tc := ⟨.hbm, 269, rfl⟩
abbrev main_v199 : Ref sig .tc := ⟨.hbm, 270, rfl⟩
abbrev main_v200 : Ref sig .tc := ⟨.hbm, 271, rfl⟩
abbrev main_c_40 : Ref sig .tc := ⟨.hbm, 272, rfl⟩
abbrev main_v201 : Ref sig .tc := ⟨.hbm, 273, rfl⟩
abbrev main_v202 : Ref sig .tc := ⟨.hbm, 274, rfl⟩
abbrev main_c_41 : Ref sig .tc := ⟨.hbm, 275, rfl⟩
abbrev main_v203 : Ref sig .tc := ⟨.hbm, 276, rfl⟩
abbrev main_v204 : Ref sig .tc := ⟨.hbm, 277, rfl⟩
abbrev main_v205 : Ref sig .tc := ⟨.hbm, 278, rfl⟩
abbrev main_v206 : Ref sig .tc := ⟨.hbm, 279, rfl⟩
abbrev main_v207 : Ref sig .tc := ⟨.hbm, 280, rfl⟩
abbrev main_c_42 : Ref sig .tc := ⟨.hbm, 281, rfl⟩
abbrev main_v208 : Ref sig .tc := ⟨.hbm, 282, rfl⟩
abbrev main_v209 : Ref sig .tc := ⟨.hbm, 283, rfl⟩
abbrev main_c_43 : Ref sig .tc := ⟨.hbm, 284, rfl⟩
abbrev main_v210 : Ref sig .tc := ⟨.hbm, 285, rfl⟩
abbrev main_v211 : Ref sig .tc := ⟨.hbm, 286, rfl⟩
abbrev main_v212 : Ref sig .tc := ⟨.hbm, 287, rfl⟩
abbrev main_v213 : Ref sig .tc := ⟨.hbm, 288, rfl⟩
abbrev main_v214 : Ref sig .tc := ⟨.hbm, 289, rfl⟩
abbrev main_v215 : Ref sig .tc := ⟨.hbm, 290, rfl⟩
abbrev main_v216 : Ref sig .tc := ⟨.hbm, 291, rfl⟩
abbrev main_v217 : Ref sig .tc := ⟨.hbm, 292, rfl⟩
abbrev main_cst_44 : Ref sig .tc := ⟨.hbm, 293, rfl⟩
abbrev main_v218 : Ref sig .tc := ⟨.hbm, 294, rfl⟩
abbrev main_v219 : Ref sig .tc := ⟨.hbm, 295, rfl⟩
abbrev main_cst_45 : Ref sig .tc := ⟨.hbm, 296, rfl⟩
abbrev main_v220 : Ref sig .tc := ⟨.hbm, 297, rfl⟩
abbrev main_v221 : Ref sig .tc := ⟨.hbm, 298, rfl⟩
abbrev main_v222 : Ref sig .tc := ⟨.hbm, 299, rfl⟩
abbrev main_cst_46 : Ref sig .tc := ⟨.hbm, 300, rfl⟩
abbrev main_v223 : Ref sig .tc := ⟨.hbm, 301, rfl⟩
abbrev main_v224 : Ref sig .tc := ⟨.hbm, 302, rfl⟩
abbrev main_cst_47 : Ref sig .tc := ⟨.hbm, 303, rfl⟩
abbrev main_v225 : Ref sig .tc := ⟨.hbm, 304, rfl⟩
abbrev main_v226 : Ref sig .tc := ⟨.hbm, 305, rfl⟩
abbrev main_v227 : Ref sig .tc := ⟨.hbm, 306, rfl⟩
abbrev main_v228 : Ref sig .tc := ⟨.hbm, 307, rfl⟩
abbrev main_v229 : Ref sig .tc := ⟨.hbm, 308, rfl⟩
abbrev main_v230 : Ref sig .tc := ⟨.hbm, 309, rfl⟩
abbrev main_c_48 : Ref sig .tc := ⟨.hbm, 310, rfl⟩
abbrev main_v231 : Ref sig .tc := ⟨.hbm, 311, rfl⟩
abbrev main_v232 : Ref sig .tc := ⟨.hbm, 312, rfl⟩
abbrev main_c_49 : Ref sig .tc := ⟨.hbm, 313, rfl⟩
abbrev main_v233 : Ref sig .tc := ⟨.hbm, 314, rfl⟩
abbrev main_v234 : Ref sig .tc := ⟨.hbm, 315, rfl⟩
abbrev main_v235 : Ref sig .tc := ⟨.hbm, 316, rfl⟩
abbrev main_v236 : Ref sig .tc := ⟨.hbm, 317, rfl⟩
abbrev main_v237 : Ref sig .tc := ⟨.hbm, 318, rfl⟩

abbrev nD : Nat := 1
abbrev τ : Topo := Topo.v7x

variable {F : FTy → Type} [FloatOps F]
-- ==== Proof.KernelFrame.lean ====
/- The frame of the kernel as written: the body is run once with nothing said of what it leaves in the output window or in
   its two scratch arrays, which is all a frame asks; the launch follows. -/
module

public import proofs.«01_k».proof.Proof.Gen.Kernel.Skeleton
public import proofs.«01_k».proof.Proof.Gen.Kernel.Frame
public import Idealize.ShloMosaic.Lib.Pipeline.FrameBody
public import Idealize.ShloMosaic.Lib.Tactic
public import Idealize.ShloMosaic.Lib.Claim

@[expose] public section

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A memref that holds something. -/
abbrev anyIn (c : Dev nD) {sh : Shape} (a : Memref sig .tc .vmem sh .f32) : sProp 𝕄 :=
  iprop(∃ d, owns (c : Thread nD τ) a fullShare d)

set_option maxHeartbeats 1000000 in
/-- The body from any contents of the output window and the scratch: the inputs come back as they were. -/
theorem body_run (c : Dev nD) (i : grid0.Coords)
    (a1 : Memref sig .tc .vmem S128x6144 .f32) (h1 : a1.IsWhole) (a2 : Memref sig .tc .vmem S6x2048x128 .f32) (h2 : a2.IsWhole)
    (a3 : Memref sig .tc .vmem S128x6144 .f32) (h3 : a3.IsWhole) (a4 : Memref sig .tc .vmem S6144x128 .f32) (h4 : a4.IsWhole)
    (a5 : Memref sig .tc .vmem S6150x128 .f32) (h5 : a5.IsWhole) (x : Vec F S128x6144 .f32) (s : Vec F S6x2048x128 .f32)
    (E : Set ℕ) (K : PUnit → sProp 𝕄) :
    iprop(owns (c : Thread nD τ) a1 fullShare x ∗ owns (c : Thread nD τ) a2 fullShare s ∗ anyIn c a3 ∗ anyIn c a4 ∗ anyIn c a5
        ∗ (iprop(owns (c : Thread nD τ) a1 fullShare x ∗ owns (c : Thread nD τ) a2 fullShare s ∗ anyIn c a3 ∗ anyIn c a4 ∗ anyIn c a5) -∗ K ⟨⟩))
      ⊢ wp frame (wpE (defs₀ (F := F)) Variants.none c none) E (cc0__ict_kernel i a1 h1 a2 h2 a3 h3 a4 h4 a5 h5) K := by
  simp only [cc0__ict_kernel_eq_skeleton]; unfold cc0__ict_kernel_skel
  simp only [k0_part1_eq_skeleton, k0_part2_eq_skeleton, k0_part3_eq_skeleton, k0_part4_eq_skeleton]
  unfold anyIn owns
  iintro ⟨⟨%fx, %ex, X⟩, ⟨%fs, %es, S⟩, ⟨%d3, %f3, -, O⟩, ⟨%d4, %f4, -, T⟩, ⟨%d5, %f5, -, D⟩, Hk⟩
  obtain rfl := h1.eq_unread ex
  obtain rfl := h2.eq_unread es
  sl_exec
  sl_step
  iapply Hk
  isplitl [X]
  · iexists _; isplitr; · ipureintro; exact h1.read_unread _
    iexact X
  isplitl [S]
  · iexists _; isplitr; · ipureintro; exact h2.read_unread _
    iexact S
  isplitl [O]
  · iexists _, _; isplitr; swap; · iexact O
    ipureintro; rfl
  isplitl [T]
  · iexists _, _; isplitr; swap; · iexact T
    ipureintro; rfl
  iexists _, _; isplitr; swap; · iexact D
  ipureintro; rfl

/-- The output window is the one whose contents are not named. -/
def unsaid : Fin 3 → Bool := fun w => w.val == 2

/-- The proof data: the input windows keep their blocks, the scratch is held at some contents between the points. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, h⟩ => Pipeline.Dat.unnamed (cfg := cfg0) ⟨2, h⟩ t
  Φ _ := Pipeline.ΦA spec0 c
  q _ := fullShare
  owed _ := 0

theorem data_A (c : Dev nD) (w : Fin cfg0.W) : (data m 0 c).A w = V m c (Pipeline.arrRef spec0 w) := by
  dsimp only [data]

theorem left0 (c : Dev nD) (t : Fin cfg0.N) : (data m 0 c).after 0 t = iblk m c 0 t := by dsimp only [data]
theorem left1 (c : Dev nD) (t : Fin cfg0.N) : (data m 0 c).after 1 t = iblk m c 1 t := by dsimp only [data]

theorem found0 (c : Dev nD) (t : Fin cfg0.N) (d) : (data m 0 c).before 0 t d = iblk m c 0 t :=
  before0_0_of m (data m 0 c) (data_A m c 0) (left0 m c) t d
theorem found1 (c : Dev nD) (t : Fin cfg0.N) (d) : (data m 0 c).before 1 t d = iblk m c 1 t :=
  before0_1_of m (data m 0 c) (data_A m c 1) (left1 m c) t d

/-- The invariant between points, with the scratch arrays as memrefs. -/
theorem between_eq (c : Dev nD) : (Pipeline.ΦA spec0 c : sProp 𝕄)
    = iprop(iprop(anyIn c (Memref.whole cc0_scratch0) ∗ anyIn c (Memref.whole cc0_scratch1)) ∗ (∃ r, prngReg c r)) := by
  unfold Pipeline.ΦA anyIn
  rw [scopedRest0_eq]
  simp only [owns_whole]
  try rfl

theorem point (c : Dev nD) (t : Fin cfg0.N) :
    iprop((data m 0 c).Φ t.castSucc ∗ (data m 0 c).owesAt () t.castSucc
      ∗ (∃ d, owns (c : Thread nD τ) (st0_0 t) fullShare ((data m 0 c).before 0 t d))
      ∗ (∃ d, owns (c : Thread nD τ) (st0_1 t) fullShare ((data m 0 c).before 1 t d))
      ∗ (∃ d, owns (c : Thread nD τ) (st0_2 t) fullShare d))
    ⊢ wp frame (wpE (defs₀ (F := F)) Variants.none c none) Set.univ (bodyAt0 t) (fun _ =>
      iprop((data m 0 c).Φ t.succ ∗ (data m 0 c).owesAt () t.succ
        ∗ owns (c : Thread nD τ) (st0_0 t) fullShare ((data m 0 c).after 0 t)
        ∗ owns (c : Thread nD τ) (st0_1 t) fullShare ((data m 0 c).after 1 t)
        ∗ (∃ d, owns (c : Thread nD τ) (st0_2 t) fullShare d))) := by
  unfold bodyAt0
  simp only [found0, found1]
  rw [show (data m 0 c).Φ t.succ = (data m 0 c).Φ t.castSucc from rfl,
    show (data m 0 c).owesAt () t.succ = (data m 0 c).owesAt () t.castSucc from rfl,
    left0, left1, show (data m 0 c).Φ t.castSucc = Pipeline.ΦA spec0 c from rfl, between_eq]
  iintro ⟨⟨⟨T, D⟩, G⟩, Q, ⟨%d0, X⟩, ⟨%d1, S⟩, ⟨%d2, O⟩⟩
  iapply (body_run c (grid0.coords t) _ _ _ _ _ _ _ _ _ _ (iblk m c 0 t) (iblk m c 1 t) Set.univ _)
  isplitl [X]; · iexact X
  isplitl [S]; · iexact S
  isplitl [O]; · iexists _; iexact O
  isplitl [T]; · iexact T
  isplitl [D]; · iexact D
  iintro ⟨X, S, O, T, D⟩
  isplitl [T D G]
  · isplitl [T D]
    · isplitl [T]
      · iexact T
      iexact D
    iexact G
  isplitl [Q]; · iexact Q
  isplitl [X]; · iexact X
  isplitl [S]; · iexact S
  iexact O

theorem row_eq (t : Fin cfg0.N) : defs₀ (F := F) .tc cfg0.body (cfg0.bodyArgs t (cfg0.slots t)) = bodyAt0 t := by
  unfold defs₀; rw [Defs.onTc_tc]

theorem obligation (c : Dev nD) : BodyObligation (data (F := F) m 0 c) (defs₀ (F := F)) Variants.none () Set.univ unsaid := fun t => by
  rw [bigSep_W0, bigSep_W0, row_eq]
  exact triple_restated (point m c t) rfl .rfl fun _ => .rfl

set_option backward.isDefEq.respectTransparency.types false in
/-- The launch, with every counter back at zero. -/
theorem launched : θ_run defs (onTc (τ := τ) (main (F := F))) (s₀ m ρ)
    (fun r => (Pipeline.RDat.FramePost (cfgs 0) (fun c => (data m 0 c).toRForget unsaid) (V m)) r ∧ r.2.sem = fun _ => 0) :=
  Pipeline.θ_run_frame_forget (Q' := _) cfgs (data m) (0 : Fin 1) launch0 defs₀ Variants.none unsaid m ρ main
    (hbody := fun c => (obligation m c).loose) (hshare := fun c => (data m 0 c).share_full fun _ => rfl)
    (howed := fun _ _ => rfl) (V := V m) (hmain := hmain m Variants.none) (hA := data_A m) (hΦ := fun _ _ => rfl)

/-- The frame, over any values: the fourteen arguments as launched and every counter at zero. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) := by
  refine (θ_run defs _ _).mono (fun r h => ⟨fun c => ?_, h.2⟩) (launched m ρ)
  have rest : ∀ b : Ref sig .tc, b ∈ Pipeline.restRefs sig spec0 → V m c b = m ((c : Thread nD τ).loc b) →
      r.2.mem ((c : Thread nD τ).loc b) = m ((c : Thread nD τ).loc b) := fun b hb hv => ((h.1 c).2 b hb).trans hv
  exact ⟨(Pipeline.RDat.FramePost.arr_in h.1 c 0 rfl).trans ((data_A m c 0).trans (Gen.V_main_arg0 m c)),
      rest main_arg1 (Pipeline.mem_restRefs_of main_arg1 (by decide) (by decide)) (Gen.V_main_arg1 m c),
      rest main_arg2 (Pipeline.mem_restRefs_of main_arg2 (by decide) (by decide)) (Gen.V_main_arg2 m c),
      rest main_arg3 (Pipeline.mem_restRefs_of main_arg3 (by decide) (by decide)) (Gen.V_main_arg3 m c),
      rest main_arg4 (Pipeline.mem_restRefs_of main_arg4 (by decide) (by decide)) (Gen.V_main_arg4 m c),
      rest main_arg5 (Pipeline.mem_restRefs_of main_arg5 (by decide) (by decide)) (Gen.V_main_arg5 m c),
      rest main_arg6 (Pipeline.mem_restRefs_of main_arg6 (by decide) (by decide)) (Gen.V_main_arg6 m c),
      rest main_arg7 (Pipeline.mem_restRefs_of main_arg7 (by decide) (by decide)) (Gen.V_main_arg7 m c),
      rest main_arg8 (Pipeline.mem_restRefs_of main_arg8 (by decide) (by decide)) (Gen.V_main_arg8 m c),
      rest main_arg9 (Pipeline.mem_restRefs_of main_arg9 (by decide) (by decide)) (Gen.V_main_arg9 m c),
      rest main_arg10 (Pipeline.mem_restRefs_of main_arg10 (by decide) (by decide)) (Gen.V_main_arg10 m c),
      rest main_arg11 (Pipeline.mem_restRefs_of main_arg11 (by decide) (by decide)) (Gen.V_main_arg11 m c),
      rest main_arg12 (Pipeline.mem_restRefs_of main_arg12 (by decide) (by decide)) (Gen.V_main_arg12 m c),
      rest main_arg13 (Pipeline.mem_restRefs_of main_arg13 (by decide) (by decide)) (Gen.V_main_arg13 m c)⟩

end Cert.Kernel.Whole

end
-- ==== Proof.KScalar.lean ====
/- The kernel's block, entry by entry: what the kernel computes at a column of its output block, as a function of the
   block of coordinates and of the block of statistics. -/
module

public import proofs.«01_k».proof.Proof.Gen.KernelIdeal.Skeleton
public import Idealize.ShloMosaic.Lib.Pipeline.FrameBody
public import Idealize.ShloMosaic.Lib.KernelVsHost
public import Idealize.ShloMosaic.Lib.ValueLayout
public import Idealize.ShloMosaic.Lib.ValueIdxCore
public import Idealize.ShloMosaic.Lib.Pointwise

@[expose] public section

set_option maxRecDepth 16384

noncomputable section

namespace Cert.KernelIdeal.Whole

open Idealize.ShloMosaic hiding ix0 ix1 ix2 ix3
open Idealize.ShloMosaic.ValueIdx
open Cert.KernelIdeal.Gen

/-- The exact value of a single-precision word. -/
abbrev lit (w : BitVec 32) : EReal := Ideal.ofBits .f32 w

/-- The three products added from the left. -/
def dot (a b : Fin 3 → EReal) : EReal := a 0 * b 0 + a 1 * b 1 + a 2 * b 2

def len (a : Fin 3 → EReal) : EReal := Ideal.sqrt (dot a a)

/-- The kernel's arccos. -/
def acosK (v : EReal) : EReal :=
  let z := max v (-v)
  let g := Ideal.sqrt (max (lit 0x3F800000#32 - z) (lit 0#32)) *
    (((lit 0xBC93F4BA#32 * z + lit 0x3D957338#32) * z + lit 0xBE5881B9#32) * z + lit 0x3FC90AEC#32)
  Scalar.select (Ideal.cmp .olt v (lit 0#32)) (lit 0x40490FDB#32 - g) g

/-- The kernel's angle of the point (x, y). -/
def atanK (y x : EReal) : EReal :=
  let ay := max y (-y)
  let ax := max x (-x)
  let t := Ideal.div (min ay ax) (max ay ax)
  let s := t * t
  let r := ((((lit 0x3CCE5019#32 * s + lit 0xBDC0E07C#32) * s + lit 0x3E3ED138#32) * s + lit 0xBEA9E8E8#32) * s
    + lit 0x3F7FFE04#32) * t
  let r1 := Scalar.select (Ideal.cmp .ogt ay ax) (lit 0x3FC90FDB#32 - r) r
  let r2 := Scalar.select (Ideal.cmp .olt x (lit 0#32)) (lit 0x40490FDB#32 - r1) r1
  Scalar.select (Ideal.cmp .olt y (lit 0#32)) (lit 0#32 - r2) r2

def angleK (p u : Fin 3 → EReal) : EReal :=
  acosK ((lit 0#32 - dot p u) * Ideal.rsqrt (len p * len p * dot u u))

def tripleK (q p u : Fin 3 → EReal) : EReal :=
  (p 1 * q 2 - p 2 * q 1) * u 0 + (p 2 * q 0 - p 0 * q 2) * u 1 + (p 0 * q 1 - p 1 * q 0) * u 2

def dihK (q p u : Fin 3 → EReal) : EReal :=
  lit 0#32 - atanK ((lit 0#32 - tripleK q p u) * len p) (dot q p * dot p u - dot q u * (len p * len p))

/-- The kernel's reciprocal of a turn. -/
def invTwoPi : EReal := Named.named (F := Idealize.ShloMosaic.Ideal) κ "inv_two_pi" (φ := .f32) 0x3E22F983#32

def wrapK (d : EReal) : EReal :=
  d - lit 0x40C90FDB#32 * Ideal.liftRound Ideal.roundHalfEven (d * invTwoPi)

/-- The three results of one atom, by the coordinate of the column. -/
def entryK (q p u : Fin 3 → EReal) (s : Fin 6 → EReal) (c : ℕ) : EReal :=
  if c = 0 then (len u - s 0) * s 3
  else if c = 1 then (angleK p u - s 1) * s 4
  else wrapK (dihK q p u - s 2) * s 5

/-! ## The body's values at an entry -/

section Values
variable (v7 v8 v9 v10 v11 v12 v13 v14 v15 : Vec Ideal S2048x128 .f32)

/-- Three arrays of coordinates at one entry. -/
def tri (a b c : Vec Ideal S2048x128 .f32) (i : S2048x128.Idx) : Fin 3 → EReal := ![a i, b i, c i]

theorem pay2_at (i) : k0_pay2 v7 v8 v9 i = dot (tri v7 v8 v9 i) (tri v7 v8 v9 i) := rfl
theorem pay3_at (i) : k0_pay3 v7 v8 v9 v10 v11 v12 i = dot (tri v10 v11 v12 i) (tri v7 v8 v9 i) := rfl
theorem pay4_at (i) : k0_pay4 v7 v8 v9 v13 v14 v15 i = dot (tri v13 v14 v15 i) (tri v7 v8 v9 i) := rfl
theorem pay5_at (i) : k0_pay5 v7 v8 v9 i = len (tri v7 v8 v9 i) := rfl

/-- A turn by one atom reads the atom before. -/
theorem turn_at (x : Vec Ideal S2048x128 .f32) (k : ℕ) (h : k + 1 < 2048) (b : Fin 128) :
    dynamicRotate 0 1#32 none x rotates_S2048x128_d0 (ix2 ⟨k + 1, h⟩ b) = x (ix2 ⟨k, by omega⟩ b) :=
  dynamicRotate_apply 0 1#32 x _ _ _ fun a => match a with
    | ⟨0, _⟩ => by
      show k = (k + 1 + 2048 - 1 % 2048) % 2048
      omega
    | ⟨1, _⟩ => rfl

theorem pay6_at (k : ℕ) (h : k + 1 < 2048) (b : Fin 128) :
    k0_pay6 v7 v8 v9 (ix2 ⟨k + 1, h⟩ b) = len (tri v7 v8 v9 (ix2 ⟨k, by omega⟩ b)) :=
  (turn_at (k0_pay5 v7 v8 v9) k h b).trans (pay5_at v7 v8 v9 _)

theorem pay8_at (v20 v25 v33 : FVec Ideal S2048x128 .f32) (i) :
    k0_pay8 v20 v25 v33 i = acosK ((lit 0#32 - v25 i) * Ideal.rsqrt (v33 i * v20 i)) := rfl

theorem pay9_at (v32 : FVec Ideal S2048x128 .f32) (i) : k0_pay9 v7 v8 v9 v10 v11 v12 v13 v14 v15 v32 i
    = (lit 0#32 - tripleK (tri v13 v14 v15 i) (tri v10 v11 v12 i) (tri v7 v8 v9 i)) * v32 i := rfl

theorem pay10_at (v25 v30 v33 : FVec Ideal S2048x128 .f32) (k : ℕ) (h : k + 1 < 2048) (b : Fin 128) :
    k0_pay10 v25 v30 v33 (ix2 ⟨k + 1, h⟩ b)
      = v25 (ix2 ⟨k, by omega⟩ b) * v25 (ix2 ⟨k + 1, h⟩ b) - v30 (ix2 ⟨k + 1, h⟩ b) * v33 (ix2 ⟨k + 1, h⟩ b) := by
  show dynamicRotate 0 1#32 none v25 rotates_S2048x128_d0 (ix2 ⟨k + 1, h⟩ b) * _ - _ = _
  rw [turn_at]; rfl

theorem pay12_at (v78 v81 : FVec Ideal S2048x128 .f32) (i) :
    k0_pay12 v78 v81 (absf v78) i = lit 0#32 - atanK (v78 i) (v81 i) := rfl

theorem pay13_at (v31 : FVec Ideal S2048x128 .f32) (a b : Vec Ideal S1x2048x128 .f32) (k : Fin 2048) (l : Fin 128) :
    k0_pay14 (k0_pay13 v31 a b) (ix2 k l) = (v31 (ix2 k l) - a (ix3 0 k l)) * b (ix3 0 k l) := by
  unfold k0_pay14 k0_pay13
  simp only [shapeCast_self]
  show (_ - shapeCast S2048x128 a _ (ix2 k l)) * shapeCast S2048x128 b _ (ix2 k l) = _
  rw [shapeCast_1ab_ab_apply, shapeCast_1ab_ab_apply]

theorem pay15_at (v75 : FVec Ideal S2048x128 .f32) (a b : Vec Ideal S1x2048x128 .f32) (k : Fin 2048) (l : Fin 128) :
    k0_pay15 v75 a b (ix2 k l) = (v75 (ix2 k l) - a (ix3 0 k l)) * b (ix3 0 k l) := by
  unfold k0_pay15
  simp only [shapeCast_self]
  show (_ - shapeCast S2048x128 a _ (ix2 k l)) * shapeCast S2048x128 b _ (ix2 k l) = _
  rw [shapeCast_1ab_ab_apply, shapeCast_1ab_ab_apply]

theorem pay16_at (v117 : FVec Ideal S2048x128 .f32) (a b : Vec Ideal S1x2048x128 .f32) (k : Fin 2048) (l : Fin 128) :
    k0_pay16 v117 a b (ix2 k l) = wrapK (v117 (ix2 k l) - a (ix3 0 k l)) * b (ix3 0 k l) := by
  unfold k0_pay16
  simp only [shapeCast_self]
  show (_ - shapeCast S2048x128 a _ (ix2 k l) - _ * Ideal.liftRound Ideal.roundHalfEven ((_ - shapeCast S2048x128 a _ (ix2 k l)) * _))
    * shapeCast S2048x128 b _ (ix2 k l) = _
  rw [shapeCast_1ab_ab_apply, shapeCast_1ab_ab_apply]
  rfl

/-- The angle at an atom, with the atom before giving the earlier bond. -/
theorem angle_at (k : ℕ) (h : k + 1 < 2048) (b : Fin 128)
    (hp : tri v7 v8 v9 (ix2 ⟨k, by omega⟩ b) = tri v10 v11 v12 (ix2 ⟨k + 1, h⟩ b)) :
    k0_pay8 (k0_pay2 v7 v8 v9) (k0_pay3 v7 v8 v9 v10 v11 v12) (k0_pay7 v7 v8 v9) (ix2 ⟨k + 1, h⟩ b)
      = angleK (tri v10 v11 v12 (ix2 ⟨k + 1, h⟩ b)) (tri v7 v8 v9 (ix2 ⟨k + 1, h⟩ b)) := by
  rw [pay8_at, pay2_at, pay3_at, ← hp]
  show acosK (_ * Ideal.rsqrt (k0_pay6 v7 v8 v9 _ * k0_pay6 v7 v8 v9 _ * _)) = _
  rw [pay6_at, hp]; rfl

theorem dih_at (k : ℕ) (h : k + 1 < 2048) (b : Fin 128)
    (hu : tri v7 v8 v9 (ix2 ⟨k, by omega⟩ b) = tri v10 v11 v12 (ix2 ⟨k + 1, h⟩ b))
    (hp : tri v10 v11 v12 (ix2 ⟨k, by omega⟩ b) = tri v13 v14 v15 (ix2 ⟨k + 1, h⟩ b)) :
    k0_pay12 (k0_pay9 v7 v8 v9 v10 v11 v12 v13 v14 v15 (k0_pay6 v7 v8 v9))
        (k0_pay10 (k0_pay3 v7 v8 v9 v10 v11 v12) (k0_pay4 v7 v8 v9 v13 v14 v15) (k0_pay7 v7 v8 v9))
        (k0_pay11 v7 v8 v9 v10 v11 v12 v13 v14 v15 (k0_pay6 v7 v8 v9)) (ix2 ⟨k + 1, h⟩ b)
      = dihK (tri v13 v14 v15 (ix2 ⟨k + 1, h⟩ b)) (tri v10 v11 v12 (ix2 ⟨k + 1, h⟩ b)) (tri v7 v8 v9 (ix2 ⟨k + 1, h⟩ b)) := by
  show k0_pay12 _ _ (absf (k0_pay9 v7 v8 v9 v10 v11 v12 v13 v14 v15 (k0_pay6 v7 v8 v9))) _ = _
  rw [pay12_at, pay9_at, pay10_at, pay3_at, pay3_at, pay4_at, hp, hu, pay6_at, hu]
  show lit 0#32 - atanK _ (_ * _ - _ * (k0_pay6 v7 v8 v9 _ * k0_pay6 v7 v8 v9 _)) = _
  rw [pay6_at, hu]; rfl

end Values

end Cert.KernelIdeal.Whole
end
-- ==== Proof.KBlock.lean ====
/- The kernel's output block as one function of its two input blocks: what the strided loads of the differences read,
   what the three strided stores leave, and the nine columns copied at the end. -/
module

public import proofs.«01_k».proof.Proof.KScalar

@[expose] public section

set_option maxRecDepth 16384

noncomputable section

namespace Cert.KernelIdeal.Whole

open Idealize.ShloMosaic hiding ix0 ix1 ix2 ix3
open Idealize.ShloMosaic.ValueIdx
open Cert.KernelIdeal.Gen

local notation "𝔽" => Idealize.ShloMosaic.Ideal

/-- Column `n` of a block's row, counted round the end. -/
def colAt (x : Vec 𝔽 S128x6144 .f32) (b : Fin 128) (n : ℕ) : EReal := x (ix2 b ⟨n % 6144, Nat.mod_lt _ (by decide)⟩)

/-- The bond vector that ends at atom `k`. -/
def bondVec (x : Vec 𝔽 S128x6144 .f32) (b : Fin 128) (k : ℕ) (c : Fin 3) : EReal :=
  colAt x b (3 * k + c.val) - colAt x b (3 * k + c.val + 6141)

/-- The block that the kernel writes. -/
def blockVal (x : Vec 𝔽 S128x6144 .f32) (s : Vec 𝔽 S6x2048x128 .f32) : Vec 𝔽 S128x6144 .f32 := fun i =>
  if (i 1).val < 9 then x i
  else entryK (bondVec x (i 0) ((i 1).val / 3 - 2)) (bondVec x (i 0) ((i 1).val / 3 - 1)) (bondVec x (i 0) ((i 1).val / 3))
    (fun r => s (ix3 r ⟨(i 1).val / 3, by have : (i 1).val < 6144 := (i 1).isLt; omega⟩ (i 0))) ((i 1).val % 3)

theorem pay1_at (x : Vec 𝔽 S128x6144 .f32) (j : Fin 6144) (b : Fin 128) :
    k0_pay1 x (ix2 j b) = colAt x b j.val - colAt x b (j.val + 6141) := by
  unfold k0_pay1
  simp only [shapeCast_self]
  rw [transpose_ix2_apply]
  show x (ix2 b j) - dynamicRotate 1 3#32 none x rotates_S128x6144_d1 (ix2 b j) = _
  rw [dynamicRotate_apply 1 3#32 x _ (ix2 b j) (ix2 b ⟨(j.val + 6141) % 6144, Nat.mod_lt _ (by decide)⟩)]
  · unfold colAt
    congr 2
    exact congrArg (ix2 b) (Fin.ext (Nat.mod_eq_of_lt j.isLt).symm)
  · intro a
    match a with
    | ⟨0, _⟩ => rfl
    | ⟨1, _⟩ =>
      show (j.val + 6141) % 6144 = (j.val + 6144 - 3 % 6144) % 6144
      omega

section Loads
variable {κ' : Kind} {sp : Space} (v : View sig κ' sp S6150x128 .f32) (f : v.ty.Contents (Elt 𝔽)) (w : Vec 𝔽 S6144x128 .f32)

/-- A strided load of the differences, where it reads a row that was written. -/
theorem load_at (o : ℕ) (inb) (k : Fin 2048) (b : Fin 128) (j : Fin 6144) (h : o + 3 * k.val = 6 + j.val) :
    View.readAt (Elt 𝔽) v { off := ![o, 0], size := S2048x128.size, stride := ![3, 1], inb := inb }
      (v.writes (Elt 𝔽) f [⟨Rect.unit ![6, 0] S6144x128.size inb_S6150x128_S6144x128_6_0, w⟩]) (ix2 k b) = w (ix2 j b) := by
  rw [View.readAt_apply]
  exact View.read_writes_cons_hit_of_coords v f _ _ _ _ _ fun a => match a with
    | ⟨0, _⟩ => by show o + 3 * k.val = 6 + 1 * j.val; omega
    | ⟨1, _⟩ => by show 0 + 1 * b.val = 0 + 1 * b.val; rfl

theorem load_new_at (o : ℕ) (inb) (k : Fin 2048) (b : Fin 128) (j : Fin 6144) (h : o + 3 * k.val = 6 + j.val) :
    v.readCov (Val := Elt 𝔽) [⟨Rect.unit ![6, 0] S6144x128.size inb_S6150x128_S6144x128_6_0, w⟩]
      { off := ![o, 0], size := S2048x128.size, stride := ![3, 1], inb := inb } (ix2 k b) = w (ix2 j b) :=
  load_at v v.junk w o inb k b j h

end Loads

/-- A load of a whole block through its view. -/
theorem whole_at {κ' : Kind} {sp : Space} (v : View sig κ' sp S128x6144 .f32) (f : v.ty.Contents (Elt 𝔽)) :
    View.readAt (Elt 𝔽) v (Rect.unit ![0, 0] S128x6144.size inb_S128x6144_S128x6144_0_0).toLoadRect f = v.read (Elt 𝔽) f := by
  funext y
  rw [View.readAt_apply]
  congr 1
  funext a
  apply Fin.ext
  match a with
  | ⟨0, _⟩ => show 0 + 1 * (y 0).val = _; rw [Nat.zero_add, Nat.one_mul]; rfl
  | ⟨1, _⟩ => show 0 + 1 * (y 1).val = _; rw [Nat.zero_add, Nat.one_mul]; rfl

/-- A load of its first nine columns. -/
theorem nine_at {κ' : Kind} {sp : Space} (v : View sig κ' sp S128x6144 .f32) (f : v.ty.Contents (Elt 𝔽)) (b : Fin 128) (n : Fin 9) :
    View.readAt (Elt 𝔽) v (Rect.unit (s := S128x6144) ![0, 0] S128x9.size inb_S128x6144_S128x9_0_0).toLoadRect f (ix2 b n)
      = v.read (Elt 𝔽) f (ix2 b ⟨n.val, by omega⟩) := by
  rw [View.readAt_apply]
  congr 1
  funext a
  apply Fin.ext
  match a with
  | ⟨0, _⟩ => show 0 + 1 * b.val = b.val; omega
  | ⟨1, _⟩ => show 0 + 1 * n.val = n.val; omega

/-- A load of one row of the statistics. -/
theorem stat_at {κ' : Kind} {sp : Space} (v : View sig κ' sp S6x2048x128 .f32) (f : v.ty.Contents (Elt 𝔽)) (r : Fin 6) (inb)
    (k : Fin 2048) (b : Fin 128) :
    View.readAt (Elt 𝔽) v (Rect.unit (s := S6x2048x128) ![r.val, 0, 0] S1x2048x128.size inb).toLoadRect f (ix3 (0 : Fin 1) k b)
      = v.read (Elt 𝔽) f (ix3 r k b) := by
  rw [View.readAt_apply]
  congr 1
  funext a
  apply Fin.ext
  match a with
  | ⟨0, _⟩ => rfl
  | ⟨1, _⟩ => show 0 + 1 * k.val = k.val; omega
  | ⟨2, _⟩ => show 0 + 1 * b.val = b.val; omega

/-- What the scratch holds after the three strided stores, read whole. -/
theorem rows_at {κ' : Kind} {sp : Space} (v : View sig κ' sp S6144x128 .f32) (f : v.ty.Contents (Elt 𝔽))
    (w0 w1 w2 : Vec 𝔽 S2048x128 .f32) (n : Fin 6144) (k : Fin 2048) (hk : n.val / 3 = k.val) (b : Fin 128) :
    View.readAt (Elt 𝔽) v (Rect.unit ![0, 0] S6144x128.size inb_S6144x128_S6144x128_0_0).toLoadRect
      (v.writes (Elt 𝔽) f
        [⟨{ off := ![2, 0], size := S2048x128.size, stride := ![3, 1], inb := inb_S6144x128_S2048x128_2_0_s_3_1, stride_pos := spos_3_1 }, w2⟩,
         ⟨{ off := ![1, 0], size := S2048x128.size, stride := ![3, 1], inb := inb_S6144x128_S2048x128_1_0_s_3_1, stride_pos := spos_3_1 }, w1⟩,
         ⟨{ off := ![0, 0], size := S2048x128.size, stride := ![3, 1], inb := inb_S6144x128_S2048x128_0_0_s_3_1, stride_pos := spos_3_1 }, w0⟩])
      (ix2 n b) = if n.val % 3 = 0 then w0 (ix2 k b) else if n.val % 3 = 1 then w1 (ix2 k b) else w2 (ix2 k b) := by
  rw [View.readAt_apply]
  have hn : (Rect.unit ![0, 0] S6144x128.size inb_S6144x128_S6144x128_0_0).toLoadRect.idx (ix2 n b) = ix2 n b := by
    funext a; apply Fin.ext
    match a with
    | ⟨0, _⟩ => show 0 + 1 * n.val = n.val; omega
    | ⟨1, _⟩ => show 0 + 1 * b.val = b.val; omega
  rw [hn]
  have miss : ∀ (o : ℕ) (ino spo) (w : Vec 𝔽 S2048x128 .f32) (L), n.val % 3 ≠ o → o < 3 → v.read (Elt 𝔽) (v.writes (Elt 𝔽) f
      (⟨({ off := ![o, 0], size := S2048x128.size, stride := ![3, 1], inb := ino, stride_pos := spo } : Rect S6144x128), w⟩ :: L)) (ix2 n b)
      = v.read (Elt 𝔽) (v.writes (Elt 𝔽) f L) (ix2 n b) := by
    intro o ino spo w L h ho
    refine View.read_writes_cons_miss v f _ L (ix2 n b) fun hm => h ?_
    obtain ⟨j, -, e⟩ := (LoadRect.mem_set _).mp hm 0
    have e' : n.val = o + 3 * j := e
    omega
  have hit : ∀ (o : ℕ) (ino spo) (w : Vec 𝔽 S2048x128 .f32) (L), n.val % 3 = o → v.read (Elt 𝔽) (v.writes (Elt 𝔽) f
      (⟨({ off := ![o, 0], size := S2048x128.size, stride := ![3, 1], inb := ino, stride_pos := spo } : Rect S6144x128), w⟩ :: L)) (ix2 n b)
      = w (ix2 k b) := by
    intro o ino spo w L h
    refine View.read_writes_cons_hit_of_coords v f
      ({ off := ![o, 0], size := S2048x128.size, stride := ![3, 1], inb := ino, stride_pos := spo } : Rect S6144x128) w L (ix2 k b) (ix2 n b)
      fun a => ?_
    match a with
    | ⟨0, _⟩ => show n.val = o + 3 * k.val; omega
    | ⟨1, _⟩ => show b.val = 0 + 1 * b.val; omega
  rcases (by omega : n.val % 3 = 0 ∨ n.val % 3 = 1 ∨ n.val % 3 = 2) with h | h | h
  · rw [if_pos h]
    exact (miss 2 _ _ w2 _ (by omega) (by omega)).trans ((miss 1 _ _ w1 _ (by omega) (by omega)).trans (hit 0 _ _ w0 _ h))
  · rw [if_neg (by omega), if_pos h]
    exact (miss 2 _ _ w2 _ (by omega) (by omega)).trans (hit 1 _ _ w1 _ h)
  · rw [if_neg (by omega), if_neg (by omega)]
    exact hit 2 _ _ w2 _ h

/-- The output window: nine columns copied over the turned scratch. -/
theorem cols_at {κ' : Kind} {sp : Space} (v : View sig κ' sp S128x6144 .f32) (f : v.ty.Contents (Elt 𝔽))
    (h : Vec 𝔽 S128x9 .f32) (y : Vec 𝔽 S128x6144 .f32) (b : Fin 128) (n : Fin 6144) :
    v.read (Elt 𝔽) (v.writes (Elt 𝔽) f
        [⟨Rect.unit ![0, 0] ![128, 9] inb_S128x6144_S128x9_0_0, h⟩,
         ⟨Rect.unit ![0, 0] S128x6144.size inb_S128x6144_S128x6144_0_0, y⟩]) (ix2 b n)
      = if hn : n.val < 9 then h (ix2 b ⟨n.val, hn⟩) else y (ix2 b n) := by
  by_cases hn : n.val < 9
  · rw [dif_pos hn]
    refine View.read_writes_cons_hit_of_coords v f (Rect.unit (s := S128x6144) ![0, 0] ![128, 9] inb_S128x6144_S128x9_0_0) h _
      (ix2 b ⟨n.val, hn⟩) (ix2 b n) fun a => ?_
    match a with
    | ⟨0, _⟩ => show b.val = 0 + 1 * b.val; omega
    | ⟨1, _⟩ => show n.val = 0 + 1 * n.val; omega
  · rw [dif_neg hn, View.read_writes_cons_miss v f _ _ _ (fun hm => hn (by
      obtain ⟨j, hj, e⟩ := (LoadRect.mem_set _).mp hm 1
      have e' : n.val = 0 + 1 * j := e
      have hj' : j < 9 := hj
      omega))]
    refine View.read_writes_cons_hit_of_coords v f (Rect.unit (s := S128x6144) ![0, 0] S128x6144.size inb_S128x6144_S128x6144_0_0) y _
      (ix2 b n) (ix2 b n) fun a => ?_
    match a with
    | ⟨0, _⟩ => show b.val = 0 + 1 * b.val; omega
    | ⟨1, _⟩ => show n.val = 0 + 1 * n.val; omega

section Whole
variable (x : Vec 𝔽 S128x6144 .f32) (s : Vec 𝔽 S6x2048x128 .f32)
variable (v7 v8 v9 v10 v11 v12 v13 v14 v15 : Vec 𝔽 S2048x128 .f32)

/-- What the nine loads hold: the bond vectors that end at an atom, at the atom before it and at the one before that. -/
structure Loaded : Prop where
  u : ∀ (k : ℕ) (h : k < 2048) (b : Fin 128), tri v7 v8 v9 (ix2 ⟨k, h⟩ b) = bondVec x b k
  p : ∀ (k : ℕ) (h : k + 1 < 2048) (b : Fin 128), tri v10 v11 v12 (ix2 ⟨k + 1, h⟩ b) = bondVec x b k
  q : ∀ (k : ℕ) (h : k + 2 < 2048) (b : Fin 128), tri v13 v14 v15 (ix2 ⟨k + 2, h⟩ b) = bondVec x b k

variable {x v7 v8 v9 v10 v11 v12 v13 v14 v15}

theorem Loaded.angle (H : Loaded x v7 v8 v9 v10 v11 v12 v13 v14 v15) (k : ℕ) (h : k + 1 < 2048) (b : Fin 128) :
    k0_pay8 (k0_pay2 v7 v8 v9) (k0_pay3 v7 v8 v9 v10 v11 v12) (k0_pay7 v7 v8 v9) (ix2 ⟨k + 1, h⟩ b)
      = angleK (bondVec x b k) (bondVec x b (k + 1)) := by
  rw [angle_at v7 v8 v9 v10 v11 v12 k h b ((H.u k _ b).trans (H.p k h b).symm), H.p k h b, H.u]

theorem Loaded.dih (H : Loaded x v7 v8 v9 v10 v11 v12 v13 v14 v15) (k : ℕ) (h : k + 2 < 2048) (b : Fin 128) :
    k0_pay12 (k0_pay9 v7 v8 v9 v10 v11 v12 v13 v14 v15 (k0_pay6 v7 v8 v9))
        (k0_pay10 (k0_pay3 v7 v8 v9 v10 v11 v12) (k0_pay4 v7 v8 v9 v13 v14 v15) (k0_pay7 v7 v8 v9))
        (k0_pay11 v7 v8 v9 v10 v11 v12 v13 v14 v15 (k0_pay6 v7 v8 v9)) (ix2 ⟨k + 2, h⟩ b)
      = dihK (bondVec x b k) (bondVec x b (k + 1)) (bondVec x b (k + 2)) := by
  rw [dih_at v7 v8 v9 v10 v11 v12 v13 v14 v15 (k + 1) h b ((H.u (k + 1) _ b).trans (H.p (k + 1) h b).symm)
    ((H.p k _ b).trans (H.q k h b).symm), H.p (k + 1) h b, H.u, H.q k h b]

/-- The differences as written. -/
abbrev steps (x : Vec 𝔽 S128x6144 .f32) : List (View.Piece (Elt 𝔽) S6150x128 .f32) :=
  [⟨Rect.unit ![6, 0] S6144x128.size inb_S6150x128_S6144x128_6_0, k0_pay1 x⟩]

/-- The nine loads, of the differences as written over anything. -/
theorem loaded {κ' : Kind} {sp : Space} (v : View sig κ' sp S6150x128 .f32) (f : v.ty.Contents (Elt 𝔽)) (x : Vec 𝔽 S128x6144 .f32) :
    Loaded x
      (v.readCov (Val := Elt 𝔽) (steps x) { off := ![6, 0], size := S2048x128.size, stride := ![3, 1], inb := inb_S6150x128_S2048x128_6_0_s_3_1 })
      (v.readCov (Val := Elt 𝔽) (steps x) { off := ![7, 0], size := S2048x128.size, stride := ![3, 1], inb := inb_S6150x128_S2048x128_7_0_s_3_1 })
      (v.readCov (Val := Elt 𝔽) (steps x) { off := ![8, 0], size := S2048x128.size, stride := ![3, 1], inb := inb_S6150x128_S2048x128_8_0_s_3_1 })
      (View.readAt (Elt 𝔽) v { off := ![3, 0], size := S2048x128.size, stride := ![3, 1], inb := inb_S6150x128_S2048x128_3_0_s_3_1 }
        (v.writes (Elt 𝔽) f (steps x)))
      (View.readAt (Elt 𝔽) v { off := ![4, 0], size := S2048x128.size, stride := ![3, 1], inb := inb_S6150x128_S2048x128_4_0_s_3_1 }
        (v.writes (Elt 𝔽) f (steps x)))
      (View.readAt (Elt 𝔽) v { off := ![5, 0], size := S2048x128.size, stride := ![3, 1], inb := inb_S6150x128_S2048x128_5_0_s_3_1 }
        (v.writes (Elt 𝔽) f (steps x)))
      (View.readAt (Elt 𝔽) v { off := ![0, 0], size := S2048x128.size, stride := ![3, 1], inb := inb_S6150x128_S2048x128_0_0_s_3_1 }
        (v.writes (Elt 𝔽) f (steps x)))
      (View.readAt (Elt 𝔽) v { off := ![1, 0], size := S2048x128.size, stride := ![3, 1], inb := inb_S6150x128_S2048x128_1_0_s_3_1 }
        (v.writes (Elt 𝔽) f (steps x)))
      (View.readAt (Elt 𝔽) v { off := ![2, 0], size := S2048x128.size, stride := ![3, 1], inb := inb_S6150x128_S2048x128_2_0_s_3_1 }
        (v.writes (Elt 𝔽) f (steps x))) where
  u k h b := by
    funext c
    match c with
    | ⟨0, _⟩ => exact (load_new_at v (k0_pay1 x) 6 _ ⟨k, h⟩ b ⟨3 * k, by omega⟩ rfl).trans (pay1_at x _ b)
    | ⟨1, _⟩ => exact (load_new_at v (k0_pay1 x) 7 _ ⟨k, h⟩ b ⟨3 * k + 1, by omega⟩ (by show 7 + 3 * k = 6 + (3 * k + 1); omega)).trans (pay1_at x _ b)
    | ⟨2, _⟩ => exact (load_new_at v (k0_pay1 x) 8 _ ⟨k, h⟩ b ⟨3 * k + 2, by omega⟩ (by show 8 + 3 * k = 6 + (3 * k + 2); omega)).trans (pay1_at x _ b)
  p k h b := by
    funext c
    match c with
    | ⟨0, _⟩ => exact (load_at v f (k0_pay1 x) 3 _ ⟨k + 1, h⟩ b ⟨3 * k, by omega⟩ (by show 3 + 3 * (k + 1) = 6 + 3 * k; omega)).trans (pay1_at x _ b)
    | ⟨1, _⟩ => exact (load_at v f (k0_pay1 x) 4 _ ⟨k + 1, h⟩ b ⟨3 * k + 1, by omega⟩ (by show 4 + 3 * (k + 1) = 6 + (3 * k + 1); omega)).trans (pay1_at x _ b)
    | ⟨2, _⟩ => exact (load_at v f (k0_pay1 x) 5 _ ⟨k + 1, h⟩ b ⟨3 * k + 2, by omega⟩ (by show 5 + 3 * (k + 1) = 6 + (3 * k + 2); omega)).trans (pay1_at x _ b)
  q k h b := by
    funext c
    match c with
    | ⟨0, _⟩ => exact (load_at v f (k0_pay1 x) 0 _ ⟨k + 2, h⟩ b ⟨3 * k, by omega⟩ (by show 0 + 3 * (k + 2) = 6 + 3 * k; omega)).trans (pay1_at x _ b)
    | ⟨1, _⟩ => exact (load_at v f (k0_pay1 x) 1 _ ⟨k + 2, h⟩ b ⟨3 * k + 1, by omega⟩ (by show 1 + 3 * (k + 2) = 6 + (3 * k + 1); omega)).trans (pay1_at x _ b)
    | ⟨2, _⟩ => exact (load_at v f (k0_pay1 x) 2 _ ⟨k + 2, h⟩ b ⟨3 * k + 2, by omega⟩ (by show 2 + 3 * (k + 2) = 6 + (3 * k + 2); omega)).trans (pay1_at x _ b)

/-- The output window after the body. -/
theorem block_eq (H : Loaded x v7 v8 v9 v10 v11 v12 v13 v14 v15) (a0 a1 a2 a3 a4 a5 : Vec 𝔽 S1x2048x128 .f32)
    (h0 : ∀ k b, a0 (ix3 (0 : Fin 1) k b) = s (ix3 (0 : Fin 6) k b)) (h1 : ∀ k b, a1 (ix3 (0 : Fin 1) k b) = s (ix3 (1 : Fin 6) k b))
    (h2 : ∀ k b, a2 (ix3 (0 : Fin 1) k b) = s (ix3 (2 : Fin 6) k b)) (h3 : ∀ k b, a3 (ix3 (0 : Fin 1) k b) = s (ix3 (3 : Fin 6) k b))
    (h4 : ∀ k b, a4 (ix3 (0 : Fin 1) k b) = s (ix3 (4 : Fin 6) k b)) (h5 : ∀ k b, a5 (ix3 (0 : Fin 1) k b) = s (ix3 (5 : Fin 6) k b))
    {κ' κ'' : Kind} {sp sp' : Space} (v : View sig κ' sp S128x6144 .f32) (f : v.ty.Contents (Elt 𝔽))
    (v' : View sig κ'' sp' S6144x128 .f32) (f' : v'.ty.Contents (Elt 𝔽)) (hd : Vec 𝔽 S128x9 .f32)
    (hx : ∀ (b : Fin 128) (n : Fin 9), hd (ix2 b n) = x (ix2 b ⟨n.val, by omega⟩)) :
    v.read (Elt 𝔽) (v.writes (Elt 𝔽) f
        [⟨Rect.unit ![0, 0] ![128, 9] inb_S128x6144_S128x9_0_0, hd⟩,
         ⟨Rect.unit ![0, 0] S128x6144.size inb_S128x6144_S128x6144_0_0, k0_pay17
          (View.readAt (Elt 𝔽) v' (Rect.unit ![0, 0] S6144x128.size inb_S6144x128_S6144x128_0_0).toLoadRect
            (v'.writes (Elt 𝔽) f'
              [⟨{ off := ![2, 0], size := S2048x128.size, stride := ![3, 1], inb := inb_S6144x128_S2048x128_2_0_s_3_1, stride_pos := spos_3_1 },
                k0_pay16 (k0_pay12 (k0_pay9 v7 v8 v9 v10 v11 v12 v13 v14 v15 (k0_pay6 v7 v8 v9))
                  (k0_pay10 (k0_pay3 v7 v8 v9 v10 v11 v12) (k0_pay4 v7 v8 v9 v13 v14 v15) (k0_pay7 v7 v8 v9))
                  (k0_pay11 v7 v8 v9 v10 v11 v12 v13 v14 v15 (k0_pay6 v7 v8 v9))) a2 a5⟩,
               ⟨{ off := ![1, 0], size := S2048x128.size, stride := ![3, 1], inb := inb_S6144x128_S2048x128_1_0_s_3_1, stride_pos := spos_3_1 },
                k0_pay15 (k0_pay8 (k0_pay2 v7 v8 v9) (k0_pay3 v7 v8 v9 v10 v11 v12) (k0_pay7 v7 v8 v9)) a1 a4⟩,
               ⟨{ off := ![0, 0], size := S2048x128.size, stride := ![3, 1], inb := inb_S6144x128_S2048x128_0_0_s_3_1, stride_pos := spos_3_1 },
                k0_pay14 (k0_pay13 (k0_pay5 v7 v8 v9) a0 a3)⟩]))⟩]) = blockVal x s := by
  funext i
  obtain ⟨b, n, rfl⟩ : ∃ (b : Fin 128) (n : Fin 6144), i = ix2 b n := ⟨i 0, i 1, by funext a; match a with | ⟨0, _⟩ => rfl | ⟨1, _⟩ => rfl⟩
  rw [cols_at]
  show _ = if n.val < 9 then x (ix2 b n) else entryK (bondVec x b (n.val / 3 - 2)) (bondVec x b (n.val / 3 - 1)) (bondVec x b (n.val / 3))
    (fun r => s (ix3 r ⟨n.val / 3, _⟩ b)) (n.val % 3)
  by_cases hn : n.val < 9
  · rw [dif_pos hn, if_pos hn, hx]
  rw [dif_neg hn, if_neg hn]
  unfold k0_pay17
  obtain ⟨k, hk⟩ : ∃ k, n.val / 3 = k + 2 := ⟨n.val / 3 - 2, by omega⟩
  have hk' : k + 2 < 2048 := by omega
  have hfin : (⟨n.val / 3, by omega⟩ : Fin 2048) = ⟨k + 2, hk'⟩ := Fin.ext hk
  rw [transpose_ix2_apply, rows_at v' f' _ _ _ n ⟨k + 2, hk'⟩ hk b, pay13_at, pay15_at, pay16_at, H.dih k hk' b, H.angle (k + 1) hk' b,
    pay5_at, H.u, h0, h1, h2, h3, h4, h5]
  simp only [hk, hfin, entryK]
  rfl

end Whole

end Cert.KernelIdeal.Whole
end
-- ==== Proof.KRun.lean ====
/- The idealised kernel, run: the body leaves in its output window the block named in KBlock, the launch leaves the array
   made of those blocks, and everything else is as it was. -/
module

public import proofs.«01_k».proof.Proof.Gen.KernelIdeal.Skeleton
public import proofs.«01_k».proof.Proof.Gen.KernelIdeal.Frame
public import Idealize.ShloMosaic.Lib.Pipeline.FrameBody
public import Idealize.ShloMosaic.Lib.Tactic
public import Idealize.ShloMosaic.Lib.Claim
public import proofs.«01_k».proof.Proof.KBlock

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

local notation "𝔽" => Idealize.ShloMosaic.Ideal

local notation "𝕄" => MT nD τ sig Unit (Elt 𝔽) ℕ (UR sig nD τ) ℕ

abbrev anyIn (c : Dev nD) {sh : Shape} (a : Memref sig .tc .vmem sh .f32) : sProp 𝕄 :=
  iprop(∃ d, owns (c : Thread nD τ) a fullShare d)

set_option maxHeartbeats 1000000 in
theorem body_run (c : Dev nD) (i : grid0.Coords)
    (a1 : Memref sig .tc .vmem S128x6144 .f32) (h1 : a1.IsWhole) (a2 : Memref sig .tc .vmem S6x2048x128 .f32) (h2 : a2.IsWhole)
    (a3 : Memref sig .tc .vmem S128x6144 .f32) (h3 : a3.IsWhole) (a4 : Memref sig .tc .vmem S6144x128 .f32) (h4 : a4.IsWhole)
    (a5 : Memref sig .tc .vmem S6150x128 .f32) (h5 : a5.IsWhole) (x : Vec 𝔽 S128x6144 .f32) (s : Vec 𝔽 S6x2048x128 .f32)
    (E : Set ℕ) (K : PUnit → sProp 𝕄) :
    iprop(owns (c : Thread nD τ) a1 fullShare x ∗ owns (c : Thread nD τ) a2 fullShare s ∗ anyIn c a3 ∗ anyIn c a4 ∗ anyIn c a5
        ∗ (iprop(owns (c : Thread nD τ) a1 fullShare x ∗ owns (c : Thread nD τ) a2 fullShare s ∗ owns (c : Thread nD τ) a3 fullShare (blockVal x s) ∗ anyIn c a4 ∗ anyIn c a5) -∗ K ⟨⟩))
      ⊢ wp frame (wpE (defs₀ (F := Idealize.ShloMosaic.Ideal)) Variants.none c none) E (cc0__ict_kernel i a1 h1 a2 h2 a3 h3 a4 h4 a5 h5) K := by
  simp only [cc0__ict_kernel_eq_skeleton]; unfold cc0__ict_kernel_skel
  simp only [k0_part1_eq_skeleton, k0_part2_eq_skeleton, k0_part3_eq_skeleton, k0_part4_eq_skeleton]
  unfold anyIn owns
  iintro ⟨⟨%fx, %ex, X⟩, ⟨%fs, %es, S⟩, ⟨%d3, %f3, -, O⟩, ⟨%d4, %f4, -, T⟩, ⟨%d5, %f5, -, D⟩, Hk⟩
  obtain rfl := h1.eq_unread ex
  obtain rfl := h2.eq_unread es
  sl_exec
  sl_step
  iapply Hk
  isplitl [X]
  · iexists _; isplitr; · ipureintro; exact h1.read_unread _
    iexact X
  isplitl [S]
  · iexists _; isplitr; · ipureintro; exact h2.read_unread _
    iexact S
  isplitl [O]
  · iexists _; isplitr; swap; · iexact O
    ipureintro
    delta body_run.sl.T_3 body_run.sl.r_12 body_run.sl.r_11 body_run.sl.r_10 body_run.sl.r_9 body_run.sl.r_8 body_run.sl.r_7 body_run.sl.r_6 body_run.sl.r_5 body_run.sl.r_4 body_run.sl.r_3 body_run.sl.r_2 body_run.sl.r_1 body_run.sl.r
    have stat : ∀ (r : Fin 6) (inb) (k : Fin 2048) (b : Fin 128),
        View.readAt (Elt 𝔽) a2.view (Rect.unit (s := S6x2048x128) ![r.val, 0, 0] S1x2048x128.size inb).toLoadRect (h2.unread s)
          (ValueIdx.ix3 (0 : Fin 1) k b) = s (ValueIdx.ix3 r k b) := fun r inb k b => by rw [stat_at, es]
    refine block_eq s ?_ _ _ _ _ _ _ (stat 0 _) (stat 1 _) (stat 2 _) (stat 3 _) (stat 4 _) (stat 5 _) _ _ _ _ _ ?_
    · delta body_run.sl.v7 body_run.sl.v8 body_run.sl.v9 body_run.sl.v10 body_run.sl.v11 body_run.sl.v12 body_run.sl.v13 body_run.sl.v14 body_run.sl.v15 body_run.sl.D_1
      rw [whole_at, ex]
      exact loaded a5.view f5 x
    · intro b n
      rw [nine_at, ex]
  isplitl [T]
  · iexists _, _; isplitr; swap; · iexact T
    ipureintro; rfl
  iexists _, _; isplitr; swap; · iexact D
  ipureintro; rfl
section Launch
variable (m : (ℓ : Loc nD τ sig) → Buf (Elt 𝔽) ℓ) (ρ : Dev nD → PrngReg)

/-- The proof data: the input windows keep their blocks, the scratch is held at some contents between the points. -/
def data (_ : Fin 1) (c : Dev nD) : Dat τ (Elt 𝔽) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => blockVal (iblk m c 0 t) (iblk m c 1 t)
  Φ _ := Pipeline.ΦA spec0 c
  q _ := fullShare
  owed _ := 0

theorem data_A (c : Dev nD) (w : Fin cfg0.W) : (data m 0 c).A w = V m c (Pipeline.arrRef spec0 w) := by
  dsimp only [data]

theorem left0 (c : Dev nD) (t : Fin cfg0.N) : (data m 0 c).after 0 t = iblk m c 0 t := by dsimp only [data]
theorem left1 (c : Dev nD) (t : Fin cfg0.N) : (data m 0 c).after 1 t = iblk m c 1 t := by dsimp only [data]

theorem left2 (c : Dev nD) (t : Fin cfg0.N) : (data m 0 c).after 2 t = blockVal (iblk m c 0 t) (iblk m c 1 t) := by dsimp only [data]

theorem found0 (c : Dev nD) (t : Fin cfg0.N) (d) : (data m 0 c).before 0 t d = iblk m c 0 t :=
  before0_0_of m (data m 0 c) (data_A m c 0) (left0 m c) t d
theorem found1 (c : Dev nD) (t : Fin cfg0.N) (d) : (data m 0 c).before 1 t d = iblk m c 1 t :=
  before0_1_of m (data m 0 c) (data_A m c 1) (left1 m c) t d

/-- The invariant between points, with the scratch arrays as memrefs. -/
theorem between_eq (c : Dev nD) : (Pipeline.ΦA spec0 c : sProp 𝕄)
    = iprop(iprop(anyIn c (Memref.whole cc0_scratch0) ∗ anyIn c (Memref.whole cc0_scratch1)) ∗ (∃ r, prngReg c r)) := by
  unfold Pipeline.ΦA anyIn
  rw [scopedRest0_eq]
  simp only [owns_whole]
  try rfl

theorem point (c : Dev nD) (t : Fin cfg0.N) :
    iprop((data m 0 c).Φ t.castSucc ∗ (data m 0 c).owesAt () t.castSucc
      ∗ (∃ d, owns (c : Thread nD τ) (st0_0 t) fullShare ((data m 0 c).before 0 t d))
      ∗ (∃ d, owns (c : Thread nD τ) (st0_1 t) fullShare ((data m 0 c).before 1 t d))
      ∗ (∃ d, owns (c : Thread nD τ) (st0_2 t) fullShare ((data m 0 c).before 2 t d)))
    ⊢ wp frame (wpE (defs₀ (F := 𝔽)) Variants.none c none) Set.univ (bodyAt0 t) (fun _ =>
      iprop((data m 0 c).Φ t.succ ∗ (data m 0 c).owesAt () t.succ
        ∗ owns (c : Thread nD τ) (st0_0 t) fullShare ((data m 0 c).after 0 t)
        ∗ owns (c : Thread nD τ) (st0_1 t) fullShare ((data m 0 c).after 1 t)
        ∗ owns (c : Thread nD τ) (st0_2 t) fullShare ((data m 0 c).after 2 t))) := by
  unfold bodyAt0
  simp only [found0, found1]
  rw [show (data m 0 c).Φ t.succ = (data m 0 c).Φ t.castSucc from rfl,
    show (data m 0 c).owesAt () t.succ = (data m 0 c).owesAt () t.castSucc from rfl,
    left0, left1, left2, show (data m 0 c).Φ t.castSucc = Pipeline.ΦA spec0 c from rfl, between_eq]
  iintro ⟨⟨⟨T, D⟩, G⟩, Q, ⟨%d0, X⟩, ⟨%d1, S⟩, ⟨%d2, O⟩⟩
  iapply (body_run c (grid0.coords t) _ _ _ _ _ _ _ _ _ _ (iblk m c 0 t) (iblk m c 1 t) Set.univ _)
  isplitl [X]; · iexact X
  isplitl [S]; · iexact S
  isplitl [O]; · iexists _; iexact O
  isplitl [T]; · iexact T
  isplitl [D]; · iexact D
  iintro ⟨X, S, O, T, D⟩
  isplitl [T D G]
  · isplitl [T D]
    · isplitl [T]
      · iexact T
      iexact D
    iexact G
  isplitl [Q]; · iexact Q
  isplitl [X]; · iexact X
  isplitl [S]; · iexact S
  iexact O

theorem row_eq (t : Fin cfg0.N) : defs₀ (F := 𝔽) .tc cfg0.body (cfg0.bodyArgs t (cfg0.slots t)) = bodyAt0 t := by
  unfold defs₀; rw [Defs.onTc_tc]

theorem obligation (c : Dev nD) : BodyObligation (data m 0 c) (defs₀ (F := 𝔽)) Variants.none () Set.univ := fun t => by
  rw [bigSep_W0, bigSep_W0, row_eq]
  exact triple_restated (point m c t) rfl .rfl fun _ => .rfl

set_option backward.isDefEq.respectTransparency.types false in
/-- The launch, with every counter back at zero. -/
theorem launched : θ_run defs (onTc (τ := τ) (main (F := 𝔽))) (s₀ m ρ)
    (fun r => Pipeline.FramePost cfgs (data m) 0 (V m) r ∧ r.2.sem = fun _ => 0) :=
  Pipeline.θ_run_frame (Q' := _) cfgs (data m) (0 : Fin 1) launch0 defs₀ Variants.none m ρ main
    (hbody := fun c => (obligation m c).loose) (hshare := fun c => (data m 0 c).share_full fun _ => rfl)
    (howed := fun _ _ => rfl) (V := V m) (hmain := hmain m Variants.none) (hA := data_A m) (hΦ := fun _ _ => rfl)

/-- The frame, over any values: the fourteen arguments as launched and every counter at zero. -/
theorem unchanged : θ_run defs (onTc (τ := τ) (main (F := 𝔽))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) := by
  refine (θ_run defs _ _).mono (fun r h => ⟨fun c => ?_, h.2⟩) (launched m ρ)
  have rest : ∀ b : Ref sig .tc, b ∈ Pipeline.restRefs sig spec0 → V m c b = m ((c : Thread nD τ).loc b) →
      r.2.mem ((c : Thread nD τ).loc b) = m ((c : Thread nD τ).loc b) := fun b hb hv => ((h.1 c).2 b hb).trans hv
  exact ⟨((h.1 c).1 0).trans (((data m 0 c).arrAt_in 0 rfl _).trans ((data_A m c 0).trans (Gen.V_main_arg0 m c))),
      rest main_arg1 (Pipeline.mem_restRefs_of main_arg1 (by decide) (by decide)) (Gen.V_main_arg1 m c),
      rest main_arg2 (Pipeline.mem_restRefs_of main_arg2 (by decide) (by decide)) (Gen.V_main_arg2 m c),
      rest main_arg3 (Pipeline.mem_restRefs_of main_arg3 (by decide) (by decide)) (Gen.V_main_arg3 m c),
      rest main_arg4 (Pipeline.mem_restRefs_of main_arg4 (by decide) (by decide)) (Gen.V_main_arg4 m c),
      rest main_arg5 (Pipeline.mem_restRefs_of main_arg5 (by decide) (by decide)) (Gen.V_main_arg5 m c),
      rest main_arg6 (Pipeline.mem_restRefs_of main_arg6 (by decide) (by decide)) (Gen.V_main_arg6 m c),
      rest main_arg7 (Pipeline.mem_restRefs_of main_arg7 (by decide) (by decide)) (Gen.V_main_arg7 m c),
      rest main_arg8 (Pipeline.mem_restRefs_of main_arg8 (by decide) (by decide)) (Gen.V_main_arg8 m c),
      rest main_arg9 (Pipeline.mem_restRefs_of main_arg9 (by decide) (by decide)) (Gen.V_main_arg9 m c),
      rest main_arg10 (Pipeline.mem_restRefs_of main_arg10 (by decide) (by decide)) (Gen.V_main_arg10 m c),
      rest main_arg11 (Pipeline.mem_restRefs_of main_arg11 (by decide) (by decide)) (Gen.V_main_arg11 m c),
      rest main_arg12 (Pipeline.mem_restRefs_of main_arg12 (by decide) (by decide)) (Gen.V_main_arg12 m c),
      rest main_arg13 (Pipeline.mem_restRefs_of main_arg13 (by decide) (by decide)) (Gen.V_main_arg13 m c)⟩

end Launch

end Cert.KernelIdeal.Whole
end
-- ==== Proof.KStats.lean ====
/- What the statistics array holds when the kernel starts: the six tables, the last three inverted, moved up by three
   atoms and repeated along the lanes. -/
module

public import proofs.«01_k».proof.Proof.KRun
public import Idealize.ShloMosaic.Lib.Claim
public import Idealize.ShloMosaic.Lib.Pointwise
public import Idealize.ShloMosaic.Lib.StableHlo.RunRead
public import Idealize.ShloMosaic.Lib.ValueIdx

@[expose] public section

set_option maxRecDepth 16384

noncomputable section

namespace Cert.KernelIdeal.Whole

open Idealize.ShloMosaic hiding ix0 ix1 ix2 ix3
open Idealize.ShloMosaic.TcCoe Idealize.ShloMosaic.Tactic Idealize.ShloMosaic.ValueIdx
open Idealize.SL Idealize.SL.Sem
open Cert.KernelIdeal.Gen

local notation "𝔽" => Idealize.ShloMosaic.Ideal

variable (m : (ℓ : Loc nD τ sig) → Buf (Elt 𝔽) ℓ)

/-- The six tables as six rows. -/
def tables (a b d e f g : (⟨S2045, .f32⟩ : BufTy).Contents (Elt 𝔽)) : (⟨S6x2045, .f32⟩ : BufTy).Contents (Elt 𝔽) :=
  concatenate S6x2045 0
    [⟨S1x2045, broadcastInDim S1x2045 ![1] bcast_S2045_S1x2045_1 a⟩, ⟨S1x2045, broadcastInDim S1x2045 ![1] bcast_S2045_S1x2045_1 b⟩,
     ⟨S1x2045, broadcastInDim S1x2045 ![1] bcast_S2045_S1x2045_1 d⟩, ⟨S1x2045, broadcastInDim S1x2045 ![1] bcast_S2045_S1x2045_1 e⟩,
     ⟨S1x2045, broadcastInDim S1x2045 ![1] bcast_S2045_S1x2045_1 f⟩, ⟨S1x2045, broadcastInDim S1x2045 ![1] bcast_S2045_S1x2045_1 g⟩]
    concatenates_S1x2045_S1x2045_S1x2045_S1x2045_S1x2045_S1x2045_S6x2045_d0

/-- From six rows to the statistics array. -/
def spread (T : (⟨S6x2045, .f32⟩ : BufTy).Contents (Elt 𝔽)) : (⟨S6x2048x128, .f32⟩ : BufTy).Contents (Elt 𝔽) :=
  broadcastInDim S6x2048x128 ![0, 1, 2] bcast_S6x2048x1_S6x2048x128_0_1_2
    (broadcastInDim S6x2048x1 ![0, 1] bcast_S6x2048_S6x2048x1_0_1
      (concatenate S6x2048 1
        [⟨S6x3, concatenate S6x3 0
            [⟨S3x3, broadcastInDim S3x3 ![] bcast_S_S3x3 (constant (F := 𝔽) S_ .f32 0x00000000#32)⟩,
             ⟨S3x3, broadcastInDim S3x3 ![] bcast_S_S3x3 (constant (F := 𝔽) S_ .f32 0x3F800000#32)⟩]
            concatenates_S3x3_S3x3_S6x3_d0⟩,
         ⟨S6x2045, concatenate S6x2045 0
            [⟨S3x2045, extractStridedSlice S3x2045 ![0, 0] T slices_S6x2045_S3x2045_0_0⟩,
             ⟨S3x2045, Host.divf (F := 𝔽) (φ := .f32) (broadcastInDim S3x2045 ![] bcast_S_S3x2045 (constant (F := 𝔽) S_ .f32 0x3F800000#32))
                (extractStridedSlice S3x2045 ![3, 0] T slices_S6x2045_S3x2045_3_0)⟩]
            concatenates_S3x2045_S3x2045_S6x2045_d0⟩]
        concatenates_S6x3_S6x2045_S6x2048_d1))

set_option maxHeartbeats 4000000 in
theorem stats_eq (c : Dev nD) : V m c main_v17 = spread (tables (m (c, main_arg1)) (m (c, main_arg3)) (m (c, main_arg5))
    (m (c, main_arg2)) (m (c, main_arg4)) (m (c, main_arg6))) := by
  unfold_abbrev_sides
  after_reads_simp
  rfl

theorem spread_mean (T : (⟨S6x2045, .f32⟩ : BufTy).Contents (Elt 𝔽)) (r : Fin 6) (hr : r.val < 3) (k : Fin 2048) (hk : 3 ≤ k.val)
    (b : Fin 128) : spread T (ix3 r k b) = T (ix2 r ⟨k.val - 3, by omega⟩) := by
  unfold spread
  pointwise
  rw [dif_neg (show ¬ k.val < 3 by omega), dif_pos (show r.val < 3 from hr)]
  rfl

theorem spread_std (T : (⟨S6x2045, .f32⟩ : BufTy).Contents (Elt 𝔽)) (r : Fin 6) (hr : 3 ≤ r.val) (k : Fin 2048) (hk : 3 ≤ k.val)
    (b : Fin 128) : spread T (ix3 r k b) = Ideal.div (Ideal.ofBits .f32 0x3F800000#32) (T (ix2 r ⟨k.val - 3, by omega⟩)) := by
  unfold spread
  pointwise
  rw [dif_neg (show ¬ k.val < 3 by omega), dif_neg (show ¬ r.val < 3 by omega)]
  refine congrArg (fun i => Ideal.div 1 (T i)) ?_
  refine congrArg₂ Idealize.ShloMosaic.ix2 (Fin.ext ?_) rfl
  show 3 + (r.val - 3) = r.val
  omega

theorem tables_at (a b d e f g : (⟨S2045, .f32⟩ : BufTy).Contents (Elt 𝔽)) (r : Fin 6) (n : Fin 2045) :
    tables a b d e f g (ix2 r n) = (match r with | 0 => a | 1 => b | 2 => d | 3 => e | 4 => f | 5 => g) (ix1 n) := by
  unfold tables
  pointwise
  fin_cases r <;> rfl

end Cert.KernelIdeal.Whole
end
-- ==== Proof.KValue.lean ====
/- What the idealised kernel leaves in its result, over the arguments as launched: column by column, over whole rows. -/
module

public import proofs.«01_k».proof.Proof.KStats
public import proofs.«01_k».proof.Proof.Gen.KernelIdeal.Points
public import Idealize.ShloMosaic.Lib.Claim
public import Idealize.ShloMosaic.Lib.Pipeline.ValueKit.Geometry

@[expose] public section

set_option maxRecDepth 16384

noncomputable section

namespace Cert.KernelIdeal.Whole

open Idealize.ShloMosaic hiding ix0 ix1 ix2 ix3
open Idealize.ShloMosaic.TcCoe Idealize.ShloMosaic.Tactic Idealize.ShloMosaic.ValueIdx
open Idealize.SL Idealize.SL.Sem
open Cert.KernelIdeal.Gen

local notation "𝔽" => Idealize.ShloMosaic.Ideal

/-- Column `n` of a row of the coordinates. -/
def colX (X : Vec 𝔽 S2048x6144 .f32) (B : Fin 2048) (n : ℕ) : EReal := X (ix2 B ⟨n % 6144, Nat.mod_lt _ (by decide)⟩)

/-- The bond vector that ends at atom `k`, for `k` past the first. -/
def bondX (X : Vec 𝔽 S2048x6144 .f32) (B : Fin 2048) (k : ℕ) (c : Fin 3) : EReal :=
  colX X B (3 * k + c.val) - colX X B (3 * k + c.val - 3)

/-- The statistics that the kernel uses at atom `k`. -/
def statX (T : (⟨S6x2045, .f32⟩ : BufTy).Contents (Elt 𝔽)) (k : ℕ) (r : Fin 6) : EReal :=
  if r.val < 3 then T (ix2 r ⟨(k - 3) % 2045, Nat.mod_lt _ (by decide)⟩)
  else Ideal.div (lit 0x3F800000#32) (T (ix2 r ⟨(k - 3) % 2045, Nat.mod_lt _ (by decide)⟩))

/-- The kernel's whole result. -/
def resultX (X : Vec 𝔽 S2048x6144 .f32) (T : (⟨S6x2045, .f32⟩ : BufTy).Contents (Elt 𝔽)) : Vec 𝔽 S2048x6144 .f32 := fun i =>
  if (i 1).val < 9 then X i
  else entryK (bondX X (i 0) ((i 1).val / 3 - 2)) (bondX X (i 0) ((i 1).val / 3 - 1)) (bondX X (i 0) ((i 1).val / 3))
    (statX T ((i 1).val / 3)) ((i 1).val % 3)

theorem bond_block (X : Vec 𝔽 S2048x6144 .f32) (x : Vec 𝔽 S128x6144 .f32) (B : Fin 2048) (b : Fin 128)
    (h : ∀ n, x (ix2 b n) = X (ix2 B n)) (k : ℕ) (hk : 1 ≤ k) (hk' : k < 2048) : bondVec x b k = bondX X B k := by
  funext c
  have hc := c.isLt
  unfold bondVec bondX colAt colX
  rw [h, h]
  congr 2
  refine congrArg (ix2 B) (Fin.ext ?_)
  show (3 * k + c.val + 6141) % 6144 = (3 * k + c.val - 3) % 6144
  omega

theorem block_result (X : Vec 𝔽 S2048x6144 .f32) (T : (⟨S6x2045, .f32⟩ : BufTy).Contents (Elt 𝔽)) (x : Vec 𝔽 S128x6144 .f32)
    (B : Fin 2048) (b : Fin 128) (h : ∀ n, x (ix2 b n) = X (ix2 B n)) (n : Fin 6144) :
    blockVal x (spread T) (ix2 b n) = resultX X T (ix2 B n) := by
  unfold blockVal resultX
  show (if n.val < 9 then x (ix2 b n) else entryK (bondVec x b (n.val / 3 - 2)) (bondVec x b (n.val / 3 - 1)) (bondVec x b (n.val / 3))
    (fun r => spread T (ix3 r ⟨n.val / 3, _⟩ b)) (n.val % 3)) = if n.val < 9 then X (ix2 B n) else
      entryK (bondX X B (n.val / 3 - 2)) (bondX X B (n.val / 3 - 1)) (bondX X B (n.val / 3)) (statX T (n.val / 3)) (n.val % 3)
  have hn := n.isLt
  by_cases h9 : n.val < 9
  · rw [if_pos h9, if_pos h9, h]
  rw [if_neg h9, if_neg h9, bond_block X x B b h _ (by omega) (by omega), bond_block X x B b h _ (by omega) (by omega),
    bond_block X x B b h _ (by omega) (by omega)]
  congr 1
  funext r
  have hk : (⟨n.val / 3 - 3, by omega⟩ : Fin 2045) = ⟨(n.val / 3 - 3) % 2045, Nat.mod_lt _ (by decide)⟩ :=
    Fin.ext (Nat.mod_eq_of_lt (by omega)).symm
  unfold statX
  by_cases hr : r.val < 3
  · rw [if_pos hr, spread_mean T r hr ⟨n.val / 3, by omega⟩ (by show 3 ≤ n.val / 3; omega) b]
    exact congrArg (fun z => T (ix2 r z)) hk
  · rw [if_neg hr, spread_std T r (by omega) ⟨n.val / 3, by omega⟩ (by show 3 ≤ n.val / 3; omega) b]
    exact congrArg (fun z => Ideal.div (lit 0x3F800000#32) (T (ix2 r z))) hk

variable (m : (ℓ : Loc nD τ sig) → Buf (Elt 𝔽) ℓ)

/-- The six tables of one device, as launched. -/
abbrev tablesOf (c : Dev nD) : (⟨S6x2045, .f32⟩ : BufTy).Contents (Elt 𝔽) :=
  tables (m (c, main_arg1)) (m (c, main_arg3)) (m (c, main_arg5)) (m (c, main_arg2)) (m (c, main_arg4)) (m (c, main_arg6))

theorem rows_in (c : Dev nD) (t : Fin cfg0.N) (b : Fin 128) (n : Fin 6144) :
    iblk m c 0 t (ix2 b n) = m (c, main_arg0) (((cfg0.win 2).blk t).view.emb (ix2 b n)) := by
  unfold iblk
  entry_read
  rfl

theorem stats_in (c : Dev nD) (t : Fin cfg0.N) : iblk m c 1 t = spread (tablesOf m c) := by
  funext y
  unfold iblk
  rw [View.read_apply]
  show V m c main_v17 (((cfg0.win 1).blk t).view.emb y) = _
  rw [stats_eq]
  refine congrArg (spread (tablesOf m c)) (funext fun a => Fin.ext ?_)
  blk_simp
  have hz : win0_1.index t a = 0 := by
    match a with
    | ⟨0, _⟩ => rfl
    | ⟨1, _⟩ => rfl
    | ⟨2, _⟩ => rfl
  rw [hz, Nat.zero_mul, Nat.zero_add]

theorem final (c : Dev nD) : (data m 0 c).arrAt 2 cfg0.N = resultX (m (c, main_arg0)) (tablesOf m c) := by
  refine (data m 0 c).arrAt_eq_of_covers 2 _ (by decide +kernel) fun t hf y => ?_
  blk_simp
  rw [left2, stats_in]
  have hy : y = ix2 (y 0 : Fin 128) (y 1 : Fin 6144) := funext fun a => match a with
    | ⟨0, _⟩ => rfl
    | ⟨1, _⟩ => rfl
  have hcol : ∀ (b : Fin 128) (n : Fin 6144), ((cfg0.win 2).blk t).view.emb (ix2 b n) 1 = n := fun b n => Fin.ext (by
    blk_simp
    have hz : win0_2.index t 1 = 0 := rfl
    rw [hz, Nat.zero_mul, Nat.zero_add]
    rfl)
  have hrow : ∀ (b : Fin 128) (n n' : Fin 6144), ((cfg0.win 2).blk t).view.emb (ix2 b n) 0 = ((cfg0.win 2).blk t).view.emb (ix2 b n') 0 :=
    fun b n n' => Fin.ext (by blk_simp; rfl)
  have hemb : ∀ (b : Fin 128) (n : Fin 6144), ((cfg0.win 2).blk t).view.emb (ix2 b n)
      = ix2 (((cfg0.win 2).blk t).view.emb (ix2 b (y 1 : Fin 6144)) 0 : Fin 2048) n := fun b n => funext fun a => match a with
    | ⟨0, _⟩ => hrow b n _
    | ⟨1, _⟩ => hcol b n
  have key := block_result (m (c, main_arg0)) (tablesOf m c) (iblk m c 0 t) (((cfg0.win 2).blk t).view.emb (ix2 (y 0 : Fin 128) (y 1 : Fin 6144)) 0)
    (y 0) (fun n => (rows_in m c t (y 0) n).trans (congrArg (m (c, main_arg0)) (hemb _ _))) (y 1)
  refine ((congrArg (blockVal (iblk m c 0 t) (spread (tablesOf m c))) hy).trans key).trans ?_
  refine congrArg (resultX (m (c, main_arg0)) (tablesOf m c)) ?_
  exact (hemb (y 0) (y 1)).symm.trans (congrArg ((cfg0.win 2).blk t).view.emb hy.symm)

end Cert.KernelIdeal.Whole
end
-- ==== Proof.RIndex.lean ====
/- How the reference reads and writes its columns: the gathers and the scatters through a table of column numbers,
   read at one element. -/
module

public import proofs.«01_k».proof.Proof.Gen.ReferenceIdeal.Read
public import Idealize.ShloMosaic.Lib.Routing.OpsSet
public import Idealize.ShloMosaic.Lib.Pointwise
public import Idealize.ShloMosaic.Lib.ValueIdx

@[expose] public section

set_option maxRecDepth 16384

noncomputable section

namespace Cert.ReferenceIdeal.Whole

open Idealize.ShloMosaic hiding ix0 ix1 ix2 ix3
open Idealize.ShloMosaic.ValueIdx
open Cert.ReferenceIdeal Cert.ReferenceIdeal.Gen

variable {α : Type}

theorem gather3_at (x : S2048x6144.Idx → α) (idx : IVec S2045x3x1 32) (B : Fin 2048) (n : Fin 2045) (c : Fin 3) (k : Fin 6144)
    (h : (idx (ix3 n c (0 : Fin 1))).toInt = (k.val : ℤ)) :
    Host.gather gather_S2048x6144_S2045x3x1_S2048x2045x3_0_1_n_n_1_2_20481 x idx (ix3 B n c) = x (ix2 B k) := by
  have hk := k.isLt
  unfold Host.gather
  refine congrArg x (funext fun a => Fin.ext ?_)
  have hsi : gather_S2048x6144_S2045x3x1_S2048x2045x3_0_1_n_n_1_2_20481.siIdx (ix3 B n c) ⟨0, by decide⟩ = ix3 n c (0 : Fin 1) := by
    funext b
    match b with
    | ⟨0, _⟩ => rfl
    | ⟨1, _⟩ => rfl
    | ⟨2, _⟩ => rfl
  match a with
  | ⟨0, _⟩ =>
    show 0 + 0 + B.val = B.val
    omega
  | ⟨1, _⟩ =>
    show min (idx (gather_S2048x6144_S2045x3x1_S2048x2045x3_0_1_n_n_1_2_20481.siIdx (ix3 B n c) ⟨0, by decide⟩)).toInt.toNat (6144 - 1) + 0 + 0 = k.val
    rw [hsi, h]
    omega

theorem gather2_at (x : S2048x6144.Idx → α) (idx : IVec S2045x1 32) (B : Fin 2048) (n : Fin 2045) (k : Fin 6144)
    (h : (idx (ix2 n (0 : Fin 1))).toInt = (k.val : ℤ)) :
    Host.gather gather_S2048x6144_S2045x1_S2048x2045_0_1_n_n_1_1_20481 x idx (ix2 B n) = x (ix2 B k) := by
  have hk := k.isLt
  unfold Host.gather
  refine congrArg x (funext fun a => Fin.ext ?_)
  have hsi : gather_S2048x6144_S2045x1_S2048x2045_0_1_n_n_1_1_20481.siIdx (ix2 B n) ⟨0, by decide⟩ = ix2 n (0 : Fin 1) := by
    funext b
    match b with
    | ⟨0, _⟩ => rfl
    | ⟨1, _⟩ => rfl
  match a with
  | ⟨0, _⟩ =>
    show 0 + 0 + B.val = B.val
    omega
  | ⟨1, _⟩ =>
    show min (idx (gather_S2048x6144_S2045x1_S2048x2045_0_1_n_n_1_1_20481.siIdx (ix2 B n) ⟨0, by decide⟩)).toInt.toNat (6144 - 1) + 0 + 0 = k.val
    rw [hsi, h]
    omega

theorem lands (idx : IVec S2045x1 32) (B B' : Fin 2048) (n : Fin 2045) (k : Fin 6144) :
    scatter_S2048x6144_S2045x1_S2048x2045_0_1_1_1.resultIdx? (ix2 B n) idx = some (ix2 B' k)
      ↔ B = B' ∧ (idx (ix2 n (0 : Fin 1))).toInt = (k.val : ℤ) := by
  have hk := k.isLt
  have hB := B.isLt
  have hsi : scatter_S2048x6144_S2045x1_S2048x2045_0_1_1_1.siIdx (ix2 B n) ⟨0, by decide⟩ = ix2 n (0 : Fin 1) := by
    funext b
    match b with
    | ⟨0, _⟩ => rfl
    | ⟨1, _⟩ => rfl
  have h0 : scatter_S2048x6144_S2045x1_S2048x2045_0_1_1_1.start (ix2 B n) idx (0 : Fin 2)
      + scatter_S2048x6144_S2045x1_S2048x2045_0_1_1_1.window (ix2 B n) (0 : Fin 2) = (B.val : ℤ) := by
    show (0 : ℤ) + ((B.val : ℕ) : ℤ) = _
    omega
  have h1 : scatter_S2048x6144_S2045x1_S2048x2045_0_1_1_1.start (ix2 B n) idx (1 : Fin 2)
      + scatter_S2048x6144_S2045x1_S2048x2045_0_1_1_1.window (ix2 B n) (1 : Fin 2) = (idx (ix2 n (0 : Fin 1))).toInt := by
    show (idx (scatter_S2048x6144_S2045x1_S2048x2045_0_1_1_1.siIdx (ix2 B n) ⟨0, by decide⟩)).toInt + ((0 : ℕ) : ℤ) = _
    rw [hsi]
    omega
  unfold ScatterDims.resultIdx?
  constructor
  · intro h
    split at h
    · rename_i hin
      have e := Option.some.inj h
      have e0 : (scatter_S2048x6144_S2045x1_S2048x2045_0_1_1_1.start (ix2 B n) idx (0 : Fin 2)
        + scatter_S2048x6144_S2045x1_S2048x2045_0_1_1_1.window (ix2 B n) (0 : Fin 2)).toNat = B'.val := congrArg Fin.val (congrFun e (0 : Fin 2))
      have e1 : (scatter_S2048x6144_S2045x1_S2048x2045_0_1_1_1.start (ix2 B n) idx (1 : Fin 2)
        + scatter_S2048x6144_S2045x1_S2048x2045_0_1_1_1.window (ix2 B n) (1 : Fin 2)).toNat = k.val := congrArg Fin.val (congrFun e (1 : Fin 2))
      have p1 := (hin (1 : Fin 2)).1
      rw [h0] at e0
      rw [h1] at e1 p1
      exact ⟨Fin.ext (by omega), by omega⟩
    · cases h
  · rintro ⟨rfl, hi⟩
    have hin : ∀ a : Fin 2, 0 ≤ scatter_S2048x6144_S2045x1_S2048x2045_0_1_1_1.start (ix2 B n) idx a
        + scatter_S2048x6144_S2045x1_S2048x2045_0_1_1_1.window (ix2 B n) a
        ∧ scatter_S2048x6144_S2045x1_S2048x2045_0_1_1_1.start (ix2 B n) idx a
        + scatter_S2048x6144_S2045x1_S2048x2045_0_1_1_1.window (ix2 B n) a < S2048x6144.size a := by
      intro a
      match a with
      | ⟨0, _⟩ =>
        refine ⟨h0.symm ▸ by omega, ?_⟩
        show scatter_S2048x6144_S2045x1_S2048x2045_0_1_1_1.start (ix2 B n) idx (0 : Fin 2)
          + scatter_S2048x6144_S2045x1_S2048x2045_0_1_1_1.window (ix2 B n) (0 : Fin 2) < 2048
        rw [h0]; omega
      | ⟨1, _⟩ =>
        refine ⟨h1.symm ▸ by omega, ?_⟩
        show scatter_S2048x6144_S2045x1_S2048x2045_0_1_1_1.start (ix2 B n) idx (1 : Fin 2)
          + scatter_S2048x6144_S2045x1_S2048x2045_0_1_1_1.window (ix2 B n) (1 : Fin 2) < 6144
        rw [h1]; omega
    rw [dif_pos hin]
    refine congrArg some (funext fun a => Fin.ext ?_)
    match a with
    | ⟨0, _⟩ => exact (congrArg Int.toNat h0).trans (Int.toNat_natCast _)
    | ⟨1, _⟩ => exact (congrArg Int.toNat (h1.trans hi)).trans (Int.toNat_natCast _)

theorem row_col (j : S2048x2045.Idx) : ∃ (b : Fin 2048) (q : Fin 2045), j = ix2 b q :=
  ⟨j 0, j 1, funext fun a => match a with
    | ⟨0, _⟩ => rfl
    | ⟨1, _⟩ => rfl⟩

/-- A scatter through a table that counts every third column from `o` on. -/
theorem scatter_hit (o : ℕ) (x : S2048x6144.Idx → α) (idx : IVec S2045x1 32) (u : S2048x2045.Idx → α)
    (h : ∀ n : Fin 2045, (idx (ix2 n (0 : Fin 1))).toInt = ((3 * n.val + o : ℕ) : ℤ)) (B : Fin 2048) (n : Fin 2045) (k : Fin 6144)
    (hk : k.val = 3 * n.val + o) :
    Host.scatter scatter_S2048x6144_S2045x1_S2048x2045_0_1_1_1 (fun _ b => b) x idx u (ix2 B k) = u (ix2 B n) := by
  refine Routing.scatter_set_hit _ x idx u (ix2 B k) (u (ix2 B n)) (fun j hj => ?_) (ix2 B n) ((lands idx B B n k).2 ⟨rfl, ?_⟩)
  · obtain ⟨b, q, rfl⟩ := row_col j
    obtain ⟨rfl, hi⟩ := (lands idx _ B _ k).1 hj
    rw [h] at hi
    obtain rfl : q = n := Fin.ext (by omega)
    rfl
  · rw [h, hk]

theorem scatter_miss (o : ℕ) (x : S2048x6144.Idx → α) (idx : IVec S2045x1 32) (u : S2048x2045.Idx → α)
    (h : ∀ n : Fin 2045, (idx (ix2 n (0 : Fin 1))).toInt = ((3 * n.val + o : ℕ) : ℤ)) (B : Fin 2048) (k : Fin 6144)
    (hk : ∀ n : Fin 2045, k.val ≠ 3 * n.val + o) :
    Host.scatter scatter_S2048x6144_S2045x1_S2048x2045_0_1_1_1 (fun _ b => b) x idx u (ix2 B k) = x (ix2 B k) := by
  refine Routing.scatter_set_miss _ x idx u (ix2 B k) (fun j hj => ?_)
  obtain ⟨b, q, rfl⟩ := row_col j
  obtain ⟨rfl, hi⟩ := (lands idx _ B _ k).1 hj
  rw [h] at hi
  exact hk q (by omega)

end Cert.ReferenceIdeal.Whole
end
-- ==== Proof.RGeom.lean ====
/- What the reference computes for one internal coordinate from the four atoms that define it. -/
module

public import proofs.«01_k».proof.Proof.RIndex
public import Idealize.ShloMosaic.Lib.Pointwise

@[expose] public section

set_option maxRecDepth 16384

noncomputable section

namespace Cert.ReferenceIdeal.Whole

open Idealize.ShloMosaic hiding ix0 ix1 ix2 ix3
open Idealize.ShloMosaic.ValueIdx
open Cert.ReferenceIdeal Cert.ReferenceIdeal.Gen Cert.ReferenceIdeal.Read

local notation "𝔽" => Idealize.ShloMosaic.Ideal

abbrev lit (w : BitVec 32) : EReal := Ideal.ofBits .f32 w

/-- The sum of three components, as the host adds them. -/
def sum3 (f : Fin 3 → EReal) : EReal := lit 0x00000000#32 + ∑ k : Fin 3, f k

def norm3 (f : Fin 3 → EReal) : EReal := Ideal.sqrt (sum3 fun k => f k * f k)

def unit3 (f : Fin 3 → EReal) (c : Fin 3) : EReal := Ideal.div (f c) (norm3 f)

def cross3 (a b : Fin 3 → EReal) : Fin 3 → EReal :=
  ![a 1 * b 2 - a 2 * b 1, a 2 * b 0 - a 0 * b 2, a 0 * b 1 - a 1 * b 0]

/-- The polynomial arccosine of the reference. -/
def acosR (v : EReal) : EReal :=
  let z := max v (-v)
  let g := Ideal.sqrt (max (lit 0x3F800000#32 - z) (lit 0x00000000#32))
    * (((lit 0xBC93F4BA#32 * z + lit 0x3D957338#32) * z - lit 0x3E5881B9#32) * z + lit 0x3FC90AEC#32)
  Scalar.select (Ideal.cmp .olt v (lit 0x00000000#32)) (lit 0x40490FDB#32 - g) g

/-- The polynomial arctangent of two arguments of the reference. -/
def atanR (y x : EReal) : EReal :=
  let ay := max y (-y)
  let ax := max x (-x)
  let t := Ideal.div (min ay ax) (max ay ax)
  let s := t * t
  let r := ((((lit 0x3CCE5019#32 * s - lit 0x3DC0E07C#32) * s + lit 0x3E3ED138#32) * s - lit 0x3EA9E8E8#32) * s + lit 0x3F7FFE04#32) * t
  let r1 := Scalar.select (Ideal.cmp .ogt ay ax) (lit 0x3FC90FDB#32 - r) r
  let r2 := Scalar.select (Ideal.cmp .olt x (lit 0x00000000#32)) (lit 0x40490FDB#32 - r1) r1
  Scalar.select (Ideal.cmp .olt y (lit 0x00000000#32)) (-r2) r2

/-- The bond length from the second and the third bond vectors' ends. -/
def bondR (u : Fin 3 → EReal) : EReal := norm3 u

def angleR (b u : Fin 3 → EReal) : EReal := acosR (sum3 fun c => unit3 b c * unit3 u c)

/-- A vector less its part along the unit vector of `p`. -/
def reject (b p : Fin 3 → EReal) (c : Fin 3) : EReal := b c - (sum3 fun c => b c * unit3 p c) * unit3 p c

def dihedralR (b p u : Fin 3 → EReal) : EReal :=
  -atanR (sum3 fun c => cross3 (unit3 p) (reject b p) c * reject u p c) (sum3 fun c => reject b p c * reject u p c)

theorem ext3 {i j : S2048x2045x3.Idx} (h0 : (i 0).val = (j 0).val) (h1 : (i 1).val = (j 1).val) (h2 : (i 2).val = (j 2).val) : i = j :=
  funext fun a => match a with
    | ⟨0, _⟩ => Fin.ext h0
    | ⟨1, _⟩ => Fin.ext h1
    | ⟨2, _⟩ => Fin.ext h2

theorem ext2 {i j : S2048x2045.Idx} (h0 : (i 0).val = (j 0).val) (h1 : (i 1).val = (j 1).val) : i = j :=
  funext fun a => match a with
    | ⟨0, _⟩ => Fin.ext h0
    | ⟨1, _⟩ => Fin.ext h1

theorem flat_row (B : Fin 2048) (n : Fin 2045) : (B.val * 2045 + n.val) / 2045 = B.val := by have := n.isLt; omega
theorem flat_col (B : Fin 2048) (n : Fin 2045) : (B.val * 2045 + n.val) / 1 % 2045 = n.val := by have := n.isLt; omega

/-- Three columns laid side by side: the piece is named by the last coordinate. -/
theorem stacked (f g h : S2048x2045x1.Idx → EReal)
    (w : Shape.Concatenates (([⟨S2048x2045x1, f⟩, ⟨S2048x2045x1, g⟩, ⟨S2048x2045x1, h⟩] : List ((s : Shape) × (s.Idx → EReal))).map (·.1)) S2048x2045x3 2)
    (B : Fin 2048) (n : Fin 2045) (c : Fin 3) :
    concatenate S2048x2045x3 2 [⟨S2048x2045x1, f⟩, ⟨S2048x2045x1, g⟩, ⟨S2048x2045x1, h⟩] w (ix3 B n c)
      = (match c with | 0 => f | 1 => g | 2 => h) (ix3 B n 0) := by
  match c with
  | 0 => pointwise; exact congrArg f (funext fun a => match a with | ⟨0, _⟩ => rfl | ⟨1, _⟩ => rfl | ⟨2, _⟩ => rfl)
  | 1 => pointwise; exact congrArg g (funext fun a => match a with | ⟨0, _⟩ => rfl | ⟨1, _⟩ => rfl | ⟨2, _⟩ => rfl)
  | 2 => pointwise; exact congrArg h (funext fun a => match a with | ⟨0, _⟩ => rfl | ⟨1, _⟩ => rfl | ⟨2, _⟩ => rfl)

section
variable (x : (⟨S2048x6144, .f32⟩ : BufTy).Contents (Elt 𝔽)) (i1 i2 i3 i4 : (⟨S2045x3, .i32⟩ : BufTy).Contents (Elt 𝔽))
  (B : Fin 2048) (n : Fin 2045) (P1 P2 P3 P4 : Fin 3 → EReal)
  (h1 : ∀ c, val_main_v6 (F := 𝔽) x i1 (ix3 B n c) = P1 c) (h2 : ∀ c, val_main_v13 (F := 𝔽) x i2 (ix3 B n c) = P2 c)
  (h3 : ∀ c, val_main_v20 (F := 𝔽) x i3 (ix3 B n c) = P3 c) (h4 : ∀ c, val_main_v27 (F := 𝔽) x i4 (ix3 B n c) = P4 c)
include h1 h2 h3 h4

theorem v29_at : val_main_v29 (F := 𝔽) x i1 i4 (ix2 B n) = bondR (fun c => P4 c - P1 c) := by
  rw [val_main_v29_apply, val_main_call0_v1_apply]
  show Ideal.sqrt (_ + _) = Ideal.sqrt (_ + _)
  refine congrArg Ideal.sqrt (congrArg₂ (· + ·) rfl (Finset.sum_congr rfl fun k _ => ?_))
  rw [show idx_main_call0_v1 (ix2 B n) k = ix3 B n k from ext3 rfl rfl rfl, val_main_call0_v0_apply, val_main_v28_apply, h1, h4]
  rfl

theorem v33_at (c : Fin 3) : val_main_v33 (F := 𝔽) x i1 i2 (ix3 B n c) = unit3 (fun c => P2 c - P1 c) c := by
  rw [val_main_v33_apply, val_main_v30_apply, h1, h2, val_main_v32_apply, val_main_v31_apply, val_main_call1_v2_apply, val_main_call1_v1_apply]
  refine congrArg (Ideal.div (P2 c - P1 c)) (congrArg Ideal.sqrt (congrArg₂ (· + ·) rfl (Finset.sum_congr rfl fun k _ => ?_)))
  rw [show idx_main_call1_v1 (idx_main_call1_v2 (idx_main_v32 (ix3 B n c))) k = ix3 B n k from ext3 rfl rfl rfl,
    val_main_call1_v0_apply, val_main_v30_apply, h1, h2]
  rfl

theorem v37_at (c : Fin 3) : val_main_v37 (F := 𝔽) x i1 i4 (ix3 B n c) = unit3 (fun c => P4 c - P1 c) c := by
  rw [val_main_v37_apply, val_main_v34_apply, h1, h4, val_main_v36_apply, val_main_v35_apply, val_main_call2_v2_apply, val_main_call2_v1_apply]
  refine congrArg (Ideal.div (P4 c - P1 c)) (congrArg Ideal.sqrt (congrArg₂ (· + ·) rfl (Finset.sum_congr rfl fun k _ => ?_)))
  rw [show idx_main_call2_v1 (idx_main_call2_v2 (idx_main_v36 (ix3 B n c))) k = ix3 B n k from ext3 rfl rfl rfl,
    val_main_call2_v0_apply, val_main_v34_apply, h1, h4]
  rfl

theorem v39_at : val_main_v39 (F := 𝔽) x i1 i2 i4 (ix2 B n)
    = sum3 fun c => unit3 (fun c => P2 c - P1 c) c * unit3 (fun c => P4 c - P1 c) c := by
  rw [val_main_v39_apply]
  refine congrArg₂ (· + ·) rfl (Finset.sum_congr rfl fun k _ => ?_)
  rw [show idx_main_v39 (ix2 B n) k = ix3 B n k from ext3 rfl rfl rfl, val_main_v38_apply,
    v33_at x i1 i2 i3 i4 B n P1 P2 P3 P4 h1 h2 h3 h4, v37_at x i1 i2 i3 i4 B n P1 P2 P3 P4 h1 h2 h3 h4]
  rfl

theorem v61_at : val_main_v61 (F := 𝔽) x i1 i2 i4 (ix2 B n) = angleR (fun c => P2 c - P1 c) (fun c => P4 c - P1 c) := by
  have e := v39_at x i1 i2 i3 i4 B n P1 P2 P3 P4 h1 h2 h3 h4
  simp only [val_main_v61_apply, val_main_v60_apply, val_main_v59_apply, val_main_v58_apply, val_main_v57_apply, val_main_v56_apply,
    val_main_v55_apply, val_main_v54_apply, val_main_v53_apply, val_main_v52_apply, val_main_v51_apply, val_main_v50_apply,
    val_main_v49_apply, val_main_v48_apply, val_main_v47_apply, val_main_v46_apply, val_main_v45_apply, val_main_v44_apply,
    val_main_v43_apply, val_main_v42_apply, val_main_v41_apply, val_main_v40_apply, e]
  rfl

theorem v66_at (c : Fin 3) : val_main_v66 (F := 𝔽) x i1 i2 (ix3 B n c) = unit3 (fun c => P1 c - P2 c) c := by
  rw [val_main_v66_apply, val_main_v63_apply, h1, h2, val_main_v65_apply, val_main_v64_apply, val_main_call4_v2_apply, val_main_call4_v1_apply]
  refine congrArg (Ideal.div (P1 c - P2 c)) (congrArg Ideal.sqrt (congrArg₂ (· + ·) rfl (Finset.sum_congr rfl fun k _ => ?_)))
  rw [show idx_main_call4_v1 (idx_main_call4_v2 (idx_main_v65 (ix3 B n c))) k = ix3 B n k from ext3 rfl rfl rfl,
    val_main_call4_v0_apply, val_main_v63_apply, h1, h2]
  rfl

theorem v73_at (c : Fin 3) : val_main_v73 (F := 𝔽) x i1 i2 i3 (ix3 B n c) = reject (fun c => P3 c - P2 c) (fun c => P1 c - P2 c) c := by
  have e := v66_at x i1 i2 i3 i4 B n P1 P2 P3 P4 h1 h2 h3 h4
  rw [val_main_v73_apply, val_main_v72_apply, val_main_v62_apply, h2, h3, e, val_main_v71_apply, val_main_v70_apply, val_main_v69_apply]
  refine congrArg (fun s => (P3 c - P2 c) - s * unit3 (fun c => P1 c - P2 c) c) (congrArg₂ (· + ·) rfl (Finset.sum_congr rfl fun k _ => ?_))
  rw [show idx_main_v69 (idx_main_v70 (idx_main_v71 (ix3 B n c))) k = ix3 B n k from ext3 rfl rfl rfl,
    val_main_v68_apply, val_main_v62_apply, h2, h3, e]
  rfl

theorem v79_at (c : Fin 3) : val_main_v79 (F := 𝔽) x i1 i2 i4 (ix3 B n c) = reject (fun c => P4 c - P1 c) (fun c => P1 c - P2 c) c := by
  have e := v66_at x i1 i2 i3 i4 B n P1 P2 P3 P4 h1 h2 h3 h4
  rw [val_main_v79_apply, val_main_v78_apply, val_main_v67_apply, h1, h4, e, val_main_v77_apply, val_main_v76_apply, val_main_v75_apply]
  refine congrArg (fun s => (P4 c - P1 c) - s * unit3 (fun c => P1 c - P2 c) c) (congrArg₂ (· + ·) rfl (Finset.sum_congr rfl fun k _ => ?_))
  rw [show idx_main_v75 (idx_main_v76 (idx_main_v77 (ix3 B n c))) k = ix3 B n k from ext3 rfl rfl rfl,
    val_main_v74_apply, val_main_v67_apply, h1, h4, e]
  rfl

theorem v81_at : val_main_v81 (F := 𝔽) x i1 i2 i3 i4 (ix2 B n)
    = sum3 fun c => reject (fun c => P3 c - P2 c) (fun c => P1 c - P2 c) c * reject (fun c => P4 c - P1 c) (fun c => P1 c - P2 c) c := by
  rw [val_main_v81_apply]
  refine congrArg₂ (· + ·) rfl (Finset.sum_congr rfl fun k _ => ?_)
  rw [show idx_main_v81 (ix2 B n) k = ix3 B n k from ext3 rfl rfl rfl, val_main_v80_apply,
    v73_at x i1 i2 i3 i4 B n P1 P2 P3 P4 h1 h2 h3 h4, v79_at x i1 i2 i3 i4 B n P1 P2 P3 P4 h1 h2 h3 h4]
  rfl

theorem v83_at : val_main_v83 (F := 𝔽) x i1 i2 (ix2 B n) = unit3 (fun c => P1 c - P2 c) 0 := by
  rw [val_main_v83_apply, val_main_v82_apply,
    show idx_main_v82 (idx_main_v83 (ix2 B n)) = ix3 B n 0 from ext3 (flat_row B n) (flat_col B n) rfl,
    v66_at x i1 i2 i3 i4 B n P1 P2 P3 P4 h1 h2 h3 h4]

theorem v85_at : val_main_v85 (F := 𝔽) x i1 i2 (ix2 B n) = unit3 (fun c => P1 c - P2 c) 1 := by
  rw [val_main_v85_apply, val_main_v84_apply,
    show idx_main_v84 (idx_main_v85 (ix2 B n)) = ix3 B n 1 from ext3 (flat_row B n) (flat_col B n) rfl,
    v66_at x i1 i2 i3 i4 B n P1 P2 P3 P4 h1 h2 h3 h4]

theorem v87_at : val_main_v87 (F := 𝔽) x i1 i2 (ix2 B n) = unit3 (fun c => P1 c - P2 c) 2 := by
  rw [val_main_v87_apply, val_main_v86_apply,
    show idx_main_v86 (idx_main_v87 (ix2 B n)) = ix3 B n 2 from ext3 (flat_row B n) (flat_col B n) rfl,
    v66_at x i1 i2 i3 i4 B n P1 P2 P3 P4 h1 h2 h3 h4]

theorem v89_at : val_main_v89 (F := 𝔽) x i1 i2 i3 (ix2 B n) = reject (fun c => P3 c - P2 c) (fun c => P1 c - P2 c) 0 := by
  rw [val_main_v89_apply, val_main_v88_apply,
    show idx_main_v88 (idx_main_v89 (ix2 B n)) = ix3 B n 0 from ext3 (flat_row B n) (flat_col B n) rfl,
    v73_at x i1 i2 i3 i4 B n P1 P2 P3 P4 h1 h2 h3 h4]

theorem v91_at : val_main_v91 (F := 𝔽) x i1 i2 i3 (ix2 B n) = reject (fun c => P3 c - P2 c) (fun c => P1 c - P2 c) 1 := by
  rw [val_main_v91_apply, val_main_v90_apply,
    show idx_main_v90 (idx_main_v91 (ix2 B n)) = ix3 B n 1 from ext3 (flat_row B n) (flat_col B n) rfl,
    v73_at x i1 i2 i3 i4 B n P1 P2 P3 P4 h1 h2 h3 h4]

theorem v93_at : val_main_v93 (F := 𝔽) x i1 i2 i3 (ix2 B n) = reject (fun c => P3 c - P2 c) (fun c => P1 c - P2 c) 2 := by
  rw [val_main_v93_apply, val_main_v92_apply,
    show idx_main_v92 (idx_main_v93 (ix2 B n)) = ix3 B n 2 from ext3 (flat_row B n) (flat_col B n) rfl,
    v73_at x i1 i2 i3 i4 B n P1 P2 P3 P4 h1 h2 h3 h4]

theorem v106_at (c : Fin 3) : val_main_v106 (F := 𝔽) x i1 i2 i3 (ix3 B n c)
    = cross3 (unit3 (fun c => P1 c - P2 c)) (reject (fun c => P3 c - P2 c) (fun c => P1 c - P2 c)) c := by
  rw [val_main_v106, stacked]
  have e0 : val_main_v103 (F := 𝔽) x i1 i2 i3 (ix3 B n 0) = cross3 (unit3 (fun c => P1 c - P2 c)) (reject (fun c => P3 c - P2 c) (fun c => P1 c - P2 c)) 0 := by
    rw [val_main_v103_apply, show idx_main_v103 (ix3 B n 0) = ix2 B n from ext2 rfl rfl,
      val_main_v96_apply, val_main_v94_apply, val_main_v95_apply,
      v85_at x i1 i2 i3 i4 B n P1 P2 P3 P4 h1 h2 h3 h4, v93_at x i1 i2 i3 i4 B n P1 P2 P3 P4 h1 h2 h3 h4,
      v87_at x i1 i2 i3 i4 B n P1 P2 P3 P4 h1 h2 h3 h4, v91_at x i1 i2 i3 i4 B n P1 P2 P3 P4 h1 h2 h3 h4]
    rfl
  have e1 : val_main_v104 (F := 𝔽) x i1 i2 i3 (ix3 B n 0) = cross3 (unit3 (fun c => P1 c - P2 c)) (reject (fun c => P3 c - P2 c) (fun c => P1 c - P2 c)) 1 := by
    rw [val_main_v104_apply, show idx_main_v104 (ix3 B n 0) = ix2 B n from ext2 rfl rfl,
      val_main_v99_apply, val_main_v97_apply, val_main_v98_apply,
      v87_at x i1 i2 i3 i4 B n P1 P2 P3 P4 h1 h2 h3 h4, v89_at x i1 i2 i3 i4 B n P1 P2 P3 P4 h1 h2 h3 h4,
      v83_at x i1 i2 i3 i4 B n P1 P2 P3 P4 h1 h2 h3 h4, v93_at x i1 i2 i3 i4 B n P1 P2 P3 P4 h1 h2 h3 h4]
    rfl
  have e2 : val_main_v105 (F := 𝔽) x i1 i2 i3 (ix3 B n 0) = cross3 (unit3 (fun c => P1 c - P2 c)) (reject (fun c => P3 c - P2 c) (fun c => P1 c - P2 c)) 2 := by
    rw [val_main_v105_apply, show idx_main_v105 (ix3 B n 0) = ix2 B n from ext2 rfl rfl,
      val_main_v102_apply, val_main_v100_apply, val_main_v101_apply,
      v83_at x i1 i2 i3 i4 B n P1 P2 P3 P4 h1 h2 h3 h4, v91_at x i1 i2 i3 i4 B n P1 P2 P3 P4 h1 h2 h3 h4,
      v85_at x i1 i2 i3 i4 B n P1 P2 P3 P4 h1 h2 h3 h4, v89_at x i1 i2 i3 i4 B n P1 P2 P3 P4 h1 h2 h3 h4]
    rfl
  match c with
  | 0 => exact e0
  | 1 => exact e1
  | 2 => exact e2

theorem v108_at : val_main_v108 (F := 𝔽) x i1 i2 i3 i4 (ix2 B n)
    = sum3 fun c => cross3 (unit3 (fun c => P1 c - P2 c)) (reject (fun c => P3 c - P2 c) (fun c => P1 c - P2 c)) c
      * reject (fun c => P4 c - P1 c) (fun c => P1 c - P2 c) c := by
  rw [val_main_v108_apply]
  refine congrArg₂ (· + ·) rfl (Finset.sum_congr rfl fun k _ => ?_)
  rw [show idx_main_v108 (ix2 B n) k = ix3 B n k from ext3 rfl rfl rfl, val_main_v107_apply,
    v106_at x i1 i2 i3 i4 B n P1 P2 P3 P4 h1 h2 h3 h4, v79_at x i1 i2 i3 i4 B n P1 P2 P3 P4 h1 h2 h3 h4]
  rfl

theorem v146_at : val_main_v146 (F := 𝔽) x i1 i2 i3 i4 (ix2 B n)
    = dihedralR (fun c => P3 c - P2 c) (fun c => P1 c - P2 c) (fun c => P4 c - P1 c) := by
  have ey := v108_at x i1 i2 i3 i4 B n P1 P2 P3 P4 h1 h2 h3 h4
  have ex := v81_at x i1 i2 i3 i4 B n P1 P2 P3 P4 h1 h2 h3 h4
  simp only [val_main_v146_apply, val_main_v145_apply, val_main_v144_apply, val_main_v143_apply, val_main_v142_apply, val_main_v141_apply, val_main_v140_apply, val_main_v139_apply, val_main_v138_apply, val_main_v137_apply, val_main_v136_apply, val_main_v135_apply, val_main_v134_apply, val_main_v133_apply, val_main_v132_apply, val_main_v131_apply, val_main_v130_apply, val_main_v129_apply, val_main_v128_apply, val_main_v127_apply, val_main_v126_apply, val_main_v125_apply, val_main_v124_apply, val_main_v123_apply, val_main_v122_apply, val_main_v121_apply, val_main_v120_apply, val_main_v119_apply, val_main_v118_apply, val_main_v117_apply, val_main_v116_apply, val_main_v115_apply, val_main_v114_apply, val_main_v113_apply, val_main_v112_apply, val_main_v111_apply, val_main_v110_apply, val_main_v109_apply, ey, ex]
  rfl

end

end Cert.ReferenceIdeal.Whole
end
-- ==== Proof.RValue.lean ====
/- The reference's result, column by column, for tables that hold the chain's indices. -/
module

public import proofs.«01_k».proof.Proof.RGeom
public import Idealize.ShloMosaic.Lib.Routing.OpsPair

@[expose] public section

set_option maxRecDepth 16384

noncomputable section

namespace Cert.ReferenceIdeal.Whole

open Idealize.ShloMosaic hiding ix0 ix1 ix2 ix3
open Idealize.ShloMosaic.ValueIdx
open Cert.ReferenceIdeal Cert.ReferenceIdeal.Gen Cert.ReferenceIdeal.Read

local notation "𝔽" => Idealize.ShloMosaic.Ideal

/-- The two corrections by a full turn that bring an angle's difference into one turn. -/
def wrapR (d : EReal) : EReal :=
  let e := Scalar.select (Ideal.cmp .olt d (lit 0xC0490FDB#32)) (d + lit 0x40C90FDB#32) d
  Scalar.select (Ideal.cmp .ogt e (lit 0x40490FDB#32)) (e - lit 0x40C90FDB#32) e

/-- An index that is not negative is kept as it is. -/
theorem kept (v a : BitVec 32) (k : ℕ) (hk : k < 6144) (h : v = BitVec.ofNat 32 k) :
    (Scalar.select (IntOp.cmpi .slt v 0#32) a v).toInt = (k : ℤ) := by
  have hv : v.toNat = k := by rw [h, BitVec.toNat_ofNat, Nat.mod_eq_of_lt (by omega)]
  rw [Routing.wrap_of_lt v a (by rw [hv]; omega), BitVec.toInt_eq_toNat_of_lt (by rw [hv]; omega), hv]

/-- Component `c` of the atom that begins `o` columns after column `3 n`. -/
def atom (x : (⟨S2048x6144, .f32⟩ : BufTy).Contents (Elt 𝔽)) (B : Fin 2048) (n : Fin 2045) (o : Fin 10) (c : Fin 3) : EReal :=
  x (ix2 B ⟨3 * n.val + o.val + c.val, by have := n.isLt; have := o.isLt; have := c.isLt; omega⟩)

/-- A table of the three columns of the atom that begins `o` columns after column `3 n`. -/
def Atoms (t : (⟨S2045x3, .i32⟩ : BufTy).Contents (Elt 𝔽)) (o : ℕ) : Prop :=
  ∀ (n : Fin 2045) (c : Fin 3), t (ix2 n c) = BitVec.ofNat 32 (3 * n.val + o + c.val)

/-- A table of the columns `3 n + o`. -/
def Columns (t : (⟨S2045, .i32⟩ : BufTy).Contents (Elt 𝔽)) (o : ℕ) : Prop :=
  ∀ n : Fin 2045, t (ix1 n) = BitVec.ofNat 32 (3 * n.val + o)

theorem v6_at (x : (⟨S2048x6144, .f32⟩ : BufTy).Contents (Elt 𝔽)) (t : (⟨S2045x3, .i32⟩ : BufTy).Contents (Elt 𝔽)) (o : Fin 10) (h : Atoms t o.val)
    (B : Fin 2048) (n : Fin 2045) (c : Fin 3) : val_main_v6 (F := 𝔽) x t (ix3 B n c) = atom x B n o c := by
  have hn := n.isLt; have ho := o.isLt; have hc := c.isLt
  refine gather3_at x _ B n c _ ?_
  rw [val_main_v5_apply, show idx_main_v5 (ix3 n c (0 : Fin 1)) = ix2 n c from funext fun a => match a with | ⟨0, _⟩ => rfl | ⟨1, _⟩ => rfl, val_main_v4_apply]
  exact kept _ _ _ (by omega) (h n c)

theorem v13_at (x : (⟨S2048x6144, .f32⟩ : BufTy).Contents (Elt 𝔽)) (t : (⟨S2045x3, .i32⟩ : BufTy).Contents (Elt 𝔽)) (o : Fin 10) (h : Atoms t o.val)
    (B : Fin 2048) (n : Fin 2045) (c : Fin 3) : val_main_v13 (F := 𝔽) x t (ix3 B n c) = atom x B n o c := by
  have hn := n.isLt; have ho := o.isLt; have hc := c.isLt
  refine gather3_at x _ B n c _ ?_
  rw [val_main_v12_apply, show idx_main_v12 (ix3 n c (0 : Fin 1)) = ix2 n c from funext fun a => match a with | ⟨0, _⟩ => rfl | ⟨1, _⟩ => rfl, val_main_v11_apply]
  exact kept _ _ _ (by omega) (h n c)

theorem v20_at (x : (⟨S2048x6144, .f32⟩ : BufTy).Contents (Elt 𝔽)) (t : (⟨S2045x3, .i32⟩ : BufTy).Contents (Elt 𝔽)) (o : Fin 10) (h : Atoms t o.val)
    (B : Fin 2048) (n : Fin 2045) (c : Fin 3) : val_main_v20 (F := 𝔽) x t (ix3 B n c) = atom x B n o c := by
  have hn := n.isLt; have ho := o.isLt; have hc := c.isLt
  refine gather3_at x _ B n c _ ?_
  rw [val_main_v19_apply, show idx_main_v19 (ix3 n c (0 : Fin 1)) = ix2 n c from funext fun a => match a with | ⟨0, _⟩ => rfl | ⟨1, _⟩ => rfl, val_main_v18_apply]
  exact kept _ _ _ (by omega) (h n c)

theorem v27_at (x : (⟨S2048x6144, .f32⟩ : BufTy).Contents (Elt 𝔽)) (t : (⟨S2045x3, .i32⟩ : BufTy).Contents (Elt 𝔽)) (o : Fin 10) (h : Atoms t o.val)
    (B : Fin 2048) (n : Fin 2045) (c : Fin 3) : val_main_v27 (F := 𝔽) x t (ix3 B n c) = atom x B n o c := by
  have hn := n.isLt; have ho := o.isLt; have hc := c.isLt
  refine gather3_at x _ B n c _ ?_
  rw [val_main_v26_apply, show idx_main_v26 (ix3 n c (0 : Fin 1)) = ix2 n c from funext fun a => match a with | ⟨0, _⟩ => rfl | ⟨1, _⟩ => rfl, val_main_v25_apply]
  exact kept _ _ _ (by omega) (h n c)

theorem v152_at (t : (⟨S2045, .i32⟩ : BufTy).Contents (Elt 𝔽)) (h : Columns t 9) (n : Fin 2045) :
    (val_main_v152 (F := 𝔽) t (ix2 n (0 : Fin 1))).toInt = ((3 * n.val + 9 : ℕ) : ℤ) := by
  have hn := n.isLt
  rw [val_main_v152_apply, show idx_main_v152 (ix2 n (0 : Fin 1)) = ix1 n from funext fun a => match a with | ⟨0, _⟩ => rfl, val_main_v151_apply]
  exact kept _ _ _ (by omega) (h n)

theorem v173_at (t : (⟨S2045, .i32⟩ : BufTy).Contents (Elt 𝔽)) (h : Columns t 9) (n : Fin 2045) :
    (val_main_v173 (F := 𝔽) t (ix2 n (0 : Fin 1))).toInt = ((3 * n.val + 9 : ℕ) : ℤ) := by
  have hn := n.isLt
  rw [val_main_v173_apply, show idx_main_v173 (ix2 n (0 : Fin 1)) = ix1 n from funext fun a => match a with | ⟨0, _⟩ => rfl, val_main_v172_apply]
  exact kept _ _ _ (by omega) (h n)

theorem v186_at (t : (⟨S2045, .i32⟩ : BufTy).Contents (Elt 𝔽)) (h : Columns t 9) (n : Fin 2045) :
    (val_main_v186 (F := 𝔽) t (ix2 n (0 : Fin 1))).toInt = ((3 * n.val + 9 : ℕ) : ℤ) := by
  have hn := n.isLt
  rw [val_main_v186_apply, show idx_main_v186 (ix2 n (0 : Fin 1)) = ix1 n from funext fun a => match a with | ⟨0, _⟩ => rfl, val_main_v185_apply]
  exact kept _ _ _ (by omega) (h n)

theorem v159_at (t : (⟨S2045, .i32⟩ : BufTy).Contents (Elt 𝔽)) (h : Columns t 10) (n : Fin 2045) :
    (val_main_v159 (F := 𝔽) t (ix2 n (0 : Fin 1))).toInt = ((3 * n.val + 10 : ℕ) : ℤ) := by
  have hn := n.isLt
  rw [val_main_v159_apply, show idx_main_v159 (ix2 n (0 : Fin 1)) = ix1 n from funext fun a => match a with | ⟨0, _⟩ => rfl, val_main_v158_apply]
  exact kept _ _ _ (by omega) (h n)

theorem v193_at (t : (⟨S2045, .i32⟩ : BufTy).Contents (Elt 𝔽)) (h : Columns t 10) (n : Fin 2045) :
    (val_main_v193 (F := 𝔽) t (ix2 n (0 : Fin 1))).toInt = ((3 * n.val + 10 : ℕ) : ℤ) := by
  have hn := n.isLt
  rw [val_main_v193_apply, show idx_main_v193 (ix2 n (0 : Fin 1)) = ix1 n from funext fun a => match a with | ⟨0, _⟩ => rfl, val_main_v192_apply]
  exact kept _ _ _ (by omega) (h n)

theorem v206_at (t : (⟨S2045, .i32⟩ : BufTy).Contents (Elt 𝔽)) (h : Columns t 10) (n : Fin 2045) :
    (val_main_v206 (F := 𝔽) t (ix2 n (0 : Fin 1))).toInt = ((3 * n.val + 10 : ℕ) : ℤ) := by
  have hn := n.isLt
  rw [val_main_v206_apply, show idx_main_v206 (ix2 n (0 : Fin 1)) = ix1 n from funext fun a => match a with | ⟨0, _⟩ => rfl, val_main_v205_apply]
  exact kept _ _ _ (by omega) (h n)

theorem v166_at (t : (⟨S2045, .i32⟩ : BufTy).Contents (Elt 𝔽)) (h : Columns t 11) (n : Fin 2045) :
    (val_main_v166 (F := 𝔽) t (ix2 n (0 : Fin 1))).toInt = ((3 * n.val + 11 : ℕ) : ℤ) := by
  have hn := n.isLt
  rw [val_main_v166_apply, show idx_main_v166 (ix2 n (0 : Fin 1)) = ix1 n from funext fun a => match a with | ⟨0, _⟩ => rfl, val_main_v165_apply]
  exact kept _ _ _ (by omega) (h n)

theorem v213_at (t : (⟨S2045, .i32⟩ : BufTy).Contents (Elt 𝔽)) (h : Columns t 11) (n : Fin 2045) :
    (val_main_v213 (F := 𝔽) t (ix2 n (0 : Fin 1))).toInt = ((3 * n.val + 11 : ℕ) : ℤ) := by
  have hn := n.isLt
  rw [val_main_v213_apply, show idx_main_v213 (ix2 n (0 : Fin 1)) = ix1 n from funext fun a => match a with | ⟨0, _⟩ => rfl, val_main_v212_apply]
  exact kept _ _ _ (by omega) (h n)

theorem v236_at (t : (⟨S2045, .i32⟩ : BufTy).Contents (Elt 𝔽)) (h : Columns t 11) (n : Fin 2045) :
    (val_main_v236 (F := 𝔽) t (ix2 n (0 : Fin 1))).toInt = ((3 * n.val + 11 : ℕ) : ℤ) := by
  have hn := n.isLt
  rw [val_main_v236_apply, show idx_main_v236 (ix2 n (0 : Fin 1)) = ix1 n from funext fun a => match a with | ⟨0, _⟩ => rfl, val_main_v235_apply]
  exact kept _ _ _ (by omega) (h n)

section
variable (x : (⟨S2048x6144, .f32⟩ : BufTy).Contents (Elt 𝔽)) (a1 a2 a3 a4 a5 a6 : (⟨S2045, .f32⟩ : BufTy).Contents (Elt 𝔽))
  (t1 t2 t3 t4 : (⟨S2045x3, .i32⟩ : BufTy).Contents (Elt 𝔽)) (tb ta td : (⟨S2045, .i32⟩ : BufTy).Contents (Elt 𝔽))
  (h1 : Atoms t1 6) (h2 : Atoms t2 3) (h3 : Atoms t3 0) (h4 : Atoms t4 9)
  (hb : Columns tb 9) (ha : Columns ta 10) (hd : Columns td 11)
include a1 a2 a3 a4 a5 a6 h1 h2 h3 h4 hb ha hd

theorem first_bond (B : Fin 2048) (n : Fin 2045)  : val_main_v167 (F := 𝔽) x t1 t2 t3 t4 tb ta td (ix2 B ⟨3 * n.val + 9, by have := n.isLt; omega⟩) = bondR (fun c => atom x B n 9 c - atom x B n 6 c) := by
  exact (scatter_miss 11 _ _ _ (v166_at td hd) B _ (fun m => by show 3 * n.val + _ ≠ _; omega)).trans ((scatter_miss 10 _ _ _ (v159_at ta ha) B _ (fun m => by show 3 * n.val + _ ≠ _; omega)).trans ((scatter_hit 9 _ _ _ (v152_at tb hb) B n _ rfl).trans (v29_at x t1 t2 t3 t4 B n (atom x B n 6) (atom x B n 3) (atom x B n 0) (atom x B n 9) (v6_at x t1 6 h1 B n) (v13_at x t2 3 h2 B n) (v20_at x t3 0 h3 B n) (v27_at x t4 9 h4 B n))))

theorem first_angle (B : Fin 2048) (n : Fin 2045)  : val_main_v167 (F := 𝔽) x t1 t2 t3 t4 tb ta td (ix2 B ⟨3 * n.val + 10, by have := n.isLt; omega⟩) = angleR (fun c => atom x B n 3 c - atom x B n 6 c) (fun c => atom x B n 9 c - atom x B n 6 c) := by
  exact (scatter_miss 11 _ _ _ (v166_at td hd) B _ (fun m => by show 3 * n.val + _ ≠ _; omega)).trans ((scatter_hit 10 _ _ _ (v159_at ta ha) B n _ rfl).trans (v61_at x t1 t2 t3 t4 B n (atom x B n 6) (atom x B n 3) (atom x B n 0) (atom x B n 9) (v6_at x t1 6 h1 B n) (v13_at x t2 3 h2 B n) (v20_at x t3 0 h3 B n) (v27_at x t4 9 h4 B n)))

theorem first_dih (B : Fin 2048) (n : Fin 2045)  : val_main_v167 (F := 𝔽) x t1 t2 t3 t4 tb ta td (ix2 B ⟨3 * n.val + 11, by have := n.isLt; omega⟩) = dihedralR (fun c => atom x B n 0 c - atom x B n 3 c) (fun c => atom x B n 6 c - atom x B n 3 c) (fun c => atom x B n 9 c - atom x B n 6 c) := by
  exact (scatter_hit 11 _ _ _ (v166_at td hd) B n _ rfl).trans (v146_at x t1 t2 t3 t4 B n (atom x B n 6) (atom x B n 3) (atom x B n 0) (atom x B n 9) (v6_at x t1 6 h1 B n) (v13_at x t2 3 h2 B n) (v20_at x t3 0 h3 B n) (v27_at x t4 9 h4 B n))

theorem white_bond (B : Fin 2048) (n : Fin 2045)  : val_main_v180 (F := 𝔽) x a1 a2 t1 t2 t3 t4 tb ta td (ix2 B n) = Ideal.div (bondR (fun c => atom x B n 9 c - atom x B n 6 c) - a1 (ix1 n)) (a2 (ix1 n)) := by
  have e : val_main_v174 (F := 𝔽) x t1 t2 t3 t4 tb ta td (ix2 B n) = bondR (fun c => atom x B n 9 c - atom x B n 6 c) :=
    (gather2_at _ _ B n ⟨3 * n.val + 9, by have := n.isLt; omega⟩ (v173_at tb hb n)).trans (first_bond x a1 a2 a3 a4 a5 a6 t1 t2 t3 t4 tb ta td h1 h2 h3 h4 hb ha hd B n)
  rw [val_main_v180_apply, val_main_v177_apply, e, val_main_v176_apply, val_main_v175_apply, val_main_v179_apply, val_main_v178_apply]
  exact congrArg₂ (fun i j => Ideal.div (bondR (fun c => atom x B n 9 c - atom x B n 6 c) - a1 i) (a2 j)) (funext fun a => match a with | ⟨0, _⟩ => rfl) (funext fun a => match a with | ⟨0, _⟩ => rfl)

theorem white_angle (B : Fin 2048) (n : Fin 2045)  : val_main_v200 (F := 𝔽) x a1 a2 a3 a4 t1 t2 t3 t4 tb ta td (ix2 B n) = Ideal.div (angleR (fun c => atom x B n 3 c - atom x B n 6 c) (fun c => atom x B n 9 c - atom x B n 6 c) - a3 (ix1 n)) (a4 (ix1 n)) := by
  have e : val_main_v194 (F := 𝔽) x a1 a2 t1 t2 t3 t4 tb ta td (ix2 B n) = angleR (fun c => atom x B n 3 c - atom x B n 6 c) (fun c => atom x B n 9 c - atom x B n 6 c) :=
    (gather2_at _ _ B n ⟨3 * n.val + 10, by have := n.isLt; omega⟩ (v193_at ta ha n)).trans ((scatter_miss 9 _ _ _ (v186_at tb hb) B _ (fun m => by show 3 * n.val + _ ≠ _; omega)).trans (first_angle x a1 a2 a3 a4 a5 a6 t1 t2 t3 t4 tb ta td h1 h2 h3 h4 hb ha hd B n))
  rw [val_main_v200_apply, val_main_v197_apply, e, val_main_v196_apply, val_main_v195_apply, val_main_v199_apply, val_main_v198_apply]
  exact congrArg₂ (fun i j => Ideal.div (angleR (fun c => atom x B n 3 c - atom x B n 6 c) (fun c => atom x B n 9 c - atom x B n 6 c) - a3 i) (a4 j)) (funext fun a => match a with | ⟨0, _⟩ => rfl) (funext fun a => match a with | ⟨0, _⟩ => rfl)

theorem white_dih (B : Fin 2048) (n : Fin 2045)  : val_main_v230 (F := 𝔽) x a1 a2 a3 a4 a5 a6 t1 t2 t3 t4 tb ta td (ix2 B n) = Ideal.div (wrapR (dihedralR (fun c => atom x B n 0 c - atom x B n 3 c) (fun c => atom x B n 6 c - atom x B n 3 c) (fun c => atom x B n 9 c - atom x B n 6 c) - a5 (ix1 n))) (a6 (ix1 n)) := by
  have e : val_main_v214 (F := 𝔽) x a1 a2 a3 a4 t1 t2 t3 t4 tb ta td (ix2 B n) = dihedralR (fun c => atom x B n 0 c - atom x B n 3 c) (fun c => atom x B n 6 c - atom x B n 3 c) (fun c => atom x B n 9 c - atom x B n 6 c) :=
    (gather2_at _ _ B n ⟨3 * n.val + 11, by have := n.isLt; omega⟩ (v213_at td hd n)).trans ((scatter_miss 10 _ _ _ (v206_at ta ha) B _ (fun m => by show 3 * n.val + _ ≠ _; omega)).trans ((scatter_miss 9 _ _ _ (v186_at tb hb) B _ (fun m => by show 3 * n.val + _ ≠ _; omega)).trans (first_dih x a1 a2 a3 a4 a5 a6 t1 t2 t3 t4 tb ta td h1 h2 h3 h4 hb ha hd B n)))
  have d : val_main_v217 (F := 𝔽) x a1 a2 a3 a4 a5 t1 t2 t3 t4 tb ta td (ix2 B n) = dihedralR (fun c => atom x B n 0 c - atom x B n 3 c) (fun c => atom x B n 6 c - atom x B n 3 c) (fun c => atom x B n 9 c - atom x B n 6 c) - a5 (ix1 n) := by
    rw [val_main_v217_apply, e, val_main_v216_apply, val_main_v215_apply]
    exact congrArg (fun i => dihedralR (fun c => atom x B n 0 c - atom x B n 3 c) (fun c => atom x B n 6 c - atom x B n 3 c) (fun c => atom x B n 9 c - atom x B n 6 c) - a5 i) (funext fun a => match a with | ⟨0, _⟩ => rfl)
  rw [val_main_v230_apply, val_main_v229_apply, val_main_v228_apply,
    show idx_main_v228 (idx_main_v229 (ix2 B n)) = ix1 n from funext fun a => match a with | ⟨0, _⟩ => rfl]
  generalize dihedralR (fun c => atom x B n 0 c - atom x B n 3 c) (fun c => atom x B n 6 c - atom x B n 3 c) (fun c => atom x B n 9 c - atom x B n 6 c) - a5 (ix1 n) = D at d
  have c1 : val_main_v218 (F := 𝔽) (ix2 B n) = lit 0xC0490FDB#32 := rfl
  have c2 : val_main_v220 (F := 𝔽) (ix2 B n) = lit 0x40C90FDB#32 := rfl
  have c3 : val_main_v223 (F := 𝔽) (ix2 B n) = lit 0x40490FDB#32 := rfl
  have c4 : val_main_v225 (F := 𝔽) (ix2 B n) = lit 0x40C90FDB#32 := rfl
  have f : val_main_v222 (F := 𝔽) x a1 a2 a3 a4 a5 t1 t2 t3 t4 tb ta td (ix2 B n)
      = Scalar.select (Ideal.cmp .olt D (lit 0xC0490FDB#32)) (D + lit 0x40C90FDB#32) D := by
    rw [val_main_v222_apply, val_main_v219_apply, val_main_v221_apply, d, c1, c2]
    rfl
  have g : val_main_v227 (F := 𝔽) x a1 a2 a3 a4 a5 t1 t2 t3 t4 tb ta td (ix2 B n) = wrapR D := by
    rw [val_main_v227_apply, val_main_v224_apply, val_main_v226_apply, f, c3, c4]
    rfl
  rw [g]
  rfl

theorem bond_column (B : Fin 2048) (n : Fin 2045)  : val_main_v237 (F := 𝔽) x a1 a2 a3 a4 a5 a6 t1 t2 t3 t4 tb ta td (ix2 B ⟨3 * n.val + 9, by have := n.isLt; omega⟩) = Ideal.div (bondR (fun c => atom x B n 9 c - atom x B n 6 c) - a1 (ix1 n)) (a2 (ix1 n)) := by
  exact (scatter_miss 11 _ _ _ (v236_at td hd) B _ (fun m => by show 3 * n.val + _ ≠ _; omega)).trans ((scatter_miss 10 _ _ _ (v206_at ta ha) B _ (fun m => by show 3 * n.val + _ ≠ _; omega)).trans ((scatter_hit 9 _ _ _ (v186_at tb hb) B n _ rfl).trans (white_bond x a1 a2 a3 a4 a5 a6 t1 t2 t3 t4 tb ta td h1 h2 h3 h4 hb ha hd B n)))

theorem angle_column (B : Fin 2048) (n : Fin 2045)  : val_main_v237 (F := 𝔽) x a1 a2 a3 a4 a5 a6 t1 t2 t3 t4 tb ta td (ix2 B ⟨3 * n.val + 10, by have := n.isLt; omega⟩) = Ideal.div (angleR (fun c => atom x B n 3 c - atom x B n 6 c) (fun c => atom x B n 9 c - atom x B n 6 c) - a3 (ix1 n)) (a4 (ix1 n)) := by
  exact (scatter_miss 11 _ _ _ (v236_at td hd) B _ (fun m => by show 3 * n.val + _ ≠ _; omega)).trans ((scatter_hit 10 _ _ _ (v206_at ta ha) B n _ rfl).trans (white_angle x a1 a2 a3 a4 a5 a6 t1 t2 t3 t4 tb ta td h1 h2 h3 h4 hb ha hd B n))

theorem dih_column (B : Fin 2048) (n : Fin 2045)  : val_main_v237 (F := 𝔽) x a1 a2 a3 a4 a5 a6 t1 t2 t3 t4 tb ta td (ix2 B ⟨3 * n.val + 11, by have := n.isLt; omega⟩) = Ideal.div (wrapR (dihedralR (fun c => atom x B n 0 c - atom x B n 3 c) (fun c => atom x B n 6 c - atom x B n 3 c) (fun c => atom x B n 9 c - atom x B n 6 c) - a5 (ix1 n))) (a6 (ix1 n)) := by
  exact (scatter_hit 11 _ _ _ (v236_at td hd) B n _ rfl).trans (white_dih x a1 a2 a3 a4 a5 a6 t1 t2 t3 t4 tb ta td h1 h2 h3 h4 hb ha hd B n)

theorem first_columns (B : Fin 2048) (k : Fin 6144) (hk : k.val < 9) : val_main_v237 (F := 𝔽) x a1 a2 a3 a4 a5 a6 t1 t2 t3 t4 tb ta td (ix2 B k) = x (ix2 B k) := by
  exact (scatter_miss 11 _ _ _ (v236_at td hd) B k (fun m => by omega)).trans ((scatter_miss 10 _ _ _ (v206_at ta ha) B k (fun m => by omega)).trans ((scatter_miss 9 _ _ _ (v186_at tb hb) B k (fun m => by omega)).trans ((scatter_miss 11 _ _ _ (v166_at td hd) B k (fun m => by omega)).trans ((scatter_miss 10 _ _ _ (v159_at ta ha) B k (fun m => by omega)).trans (scatter_miss 9 _ _ _ (v152_at tb hb) B k (fun m => by omega))))))

end

end Cert.ReferenceIdeal.Whole
end
-- ==== Proof.Agree.lean ====
/- One atom's three coordinates: the kernel's formulas and the reference's are the same numbers. -/
module

public import proofs.«01_k».proof.Proof.KScalar
public import proofs.«01_k».proof.Proof.RValue
public import Mathlib.Tactic.LinearCombination
public import Mathlib.Tactic.Positivity
public import Mathlib.Tactic.FieldSimp

@[expose] public section

noncomputable section

namespace Cert.Agree

open Idealize.ShloMosaic
open Cert.KernelIdeal.Whole (dot len acosK atanK angleK tripleK dihK wrapK invTwoPi)
open Cert.ReferenceIdeal.Whole (sum3 norm3 unit3 cross3 acosR atanR bondR angleR reject dihedralR wrapR)

/-- A vector of real components. -/
def vec (v : Fin 3 → ℝ) (c : Fin 3) : EReal := ((v c : ℝ) : EReal)

abbrev dr (a b : Fin 3 → ℝ) : ℝ := a 0 * b 0 + a 1 * b 1 + a 2 * b 2

theorem dr_nonneg (a : Fin 3 → ℝ) : 0 ≤ dr a a := by
  have h0 := mul_self_nonneg (a 0); have h1 := mul_self_nonneg (a 1); have h2 := mul_self_nonneg (a 2)
  show 0 ≤ a 0 * a 0 + a 1 * a 1 + a 2 * a 2
  linarith

theorem zero_word : Ideal.ofBits .f32 0x00000000#32 = 0 := by simp [Ideal.ofBits, Ideal.ieee, -EReal.coe_mul]
theorem turn_word : Ideal.ofBits .f32 0x40C90FDB#32 = ((13176795 / 2097152 : ℝ) : EReal) := by
  simp [Ideal.ofBits, Ideal.ieee, -EReal.coe_mul]; norm_num
theorem half_word : Ideal.ofBits .f32 0x40490FDB#32 = ((13176795 / 4194304 : ℝ) : EReal) := by
  simp [Ideal.ofBits, Ideal.ieee, -EReal.coe_mul]; norm_num
theorem minus_half_word : Ideal.ofBits .f32 0xC0490FDB#32 = ((-(13176795 / 4194304) : ℝ) : EReal) := by
  simp [Ideal.ofBits, Ideal.ieee, -EReal.coe_mul]; norm_num
theorem quarter_word : Ideal.ofBits .f32 0x3FC90FDB#32 = ((13176795 / 8388608 : ℝ) : EReal) := by
  simp [Ideal.ofBits, Ideal.ieee, -EReal.coe_mul]; norm_num
theorem neg_word1 : Ideal.ofBits .f32 0xBE5881B9#32 = -Ideal.ofBits .f32 0x3E5881B9#32 := by
  simp [Ideal.ofBits, Ideal.ieee, -EReal.coe_mul]
theorem neg_word2 : Ideal.ofBits .f32 0xBDC0E07C#32 = -Ideal.ofBits .f32 0x3DC0E07C#32 := by
  simp [Ideal.ofBits, Ideal.ieee, -EReal.coe_mul]
theorem neg_word3 : Ideal.ofBits .f32 0xBEA9E8E8#32 = -Ideal.ofBits .f32 0x3EA9E8E8#32 := by
  simp [Ideal.ofBits, Ideal.ieee, -EReal.coe_mul]
theorem p4_word : Ideal.ofBits .f32 0x3CCE5019#32 = ((13520921 / 536870912 : ℝ) : EReal) := by
  simp [Ideal.ofBits, Ideal.ieee, -EReal.coe_mul]; norm_num
theorem p3_word : Ideal.ofBits .f32 0x3DC0E07C#32 = ((12640380 / 134217728 : ℝ) : EReal) := by
  simp [Ideal.ofBits, Ideal.ieee, -EReal.coe_mul]; norm_num
theorem p2_word : Ideal.ofBits .f32 0x3E3ED138#32 = ((12505400 / 67108864 : ℝ) : EReal) := by
  simp [Ideal.ofBits, Ideal.ieee, -EReal.coe_mul]; norm_num
theorem p1_word : Ideal.ofBits .f32 0x3EA9E8E8#32 = ((11135208 / 33554432 : ℝ) : EReal) := by
  simp [Ideal.ofBits, Ideal.ieee, -EReal.coe_mul]; norm_num
theorem p0_word : Ideal.ofBits .f32 0x3F7FFE04#32 = ((16776708 / 16777216 : ℝ) : EReal) := by
  simp [Ideal.ofBits, Ideal.ieee, -EReal.coe_mul]; norm_num

theorem sel_lt {α : Type} (a b : ℝ) (x y : α) : Scalar.select (Ideal.cmp .olt (a : EReal) (b : EReal)) x y = if a < b then x else y := by
  by_cases h : a < b <;> simp [Scalar.select, Ideal.cmp, h]

theorem sel_gt {α : Type} (a b : ℝ) (x y : α) : Scalar.select (Ideal.cmp .ogt (a : EReal) (b : EReal)) x y = if b < a then x else y := by
  by_cases h : b < a <;> simp [Scalar.select, Ideal.cmp, h]

theorem sqrt_real {r : ℝ} (h : 0 ≤ r) : Ideal.sqrt (r : EReal) = ((Real.sqrt r : ℝ) : EReal) := by
  rw [Ideal.sqrt_coe, if_neg (not_lt.2 h)]

theorem rsqrt_real {r : ℝ} (h : 0 < r) : Ideal.rsqrt (r : EReal) = (((Real.sqrt r)⁻¹ : ℝ) : EReal) := by
  rw [Ideal.rsqrt_coe, if_neg (not_lt.2 h.le), if_neg h.ne']

theorem div_real (x : ℝ) {y : ℝ} (h : y ≠ 0) : Ideal.div (x : EReal) (y : EReal) = ((x / y : ℝ) : EReal) := by
  rw [Ideal.div_coe h, ← EReal.coe_mul, mul_one_div]

/-! ## The two polynomials -/

theorem acos_eq (v : EReal) : acosK v = acosR v := by
  simp only [acosK, acosR, neg_word1, sub_eq_add_neg]

theorem atan_eq (y x : EReal) : atanK y x = atanR y x := by
  simp only [atanK, atanR, neg_word2, neg_word3, zero_word, zero_sub, sub_eq_add_neg, zero_add]

/-! ## Lengths and inner products of real vectors -/

theorem dot_vec (a b : Fin 3 → ℝ) : dot (vec a) (vec b) = ((dr a b : ℝ) : EReal) := by
  simp only [dot, vec, dr, EReal.coe_add, EReal.coe_mul]

theorem len_vec (a : Fin 3 → ℝ) : len (vec a) = ((Real.sqrt (dr a a) : ℝ) : EReal) := by
  rw [len, dot_vec, sqrt_real (dr_nonneg a)]

theorem sum3_coe (f : Fin 3 → ℝ) : (sum3 fun c => ((f c : ℝ) : EReal)) = ((f 0 + f 1 + f 2 : ℝ) : EReal) := by
  simp only [sum3, zero_word, zero_add, Fin.sum_univ_three, EReal.coe_add]

theorem norm3_vec (a : Fin 3 → ℝ) : norm3 (vec a) = ((Real.sqrt (dr a a) : ℝ) : EReal) := by
  have e : (fun k => vec a k * vec a k) = fun k => ((a k * a k : ℝ) : EReal) := funext fun k => (EReal.coe_mul _ _).symm
  rw [norm3, e, sum3_coe, sqrt_real (dr_nonneg a)]

theorem unit3_vec (a : Fin 3 → ℝ) (h : 0 < dr a a) : unit3 (vec a) = vec fun c => a c / Real.sqrt (dr a a) :=
  funext fun c => by
    rw [unit3, norm3_vec]
    exact div_real _ (Real.sqrt_pos.2 h).ne'

theorem bond_eq (u : Fin 3 → ℝ) : len (vec u) = bondR (vec u) := by rw [len_vec, bondR, norm3_vec]

theorem sum_prod (a b : Fin 3 → ℝ) : (sum3 fun c => vec a c * vec b c) = ((dr a b : ℝ) : EReal) := by
  have e : (fun k => vec a k * vec b k) = fun k => ((a k * b k : ℝ) : EReal) := funext fun k => (EReal.coe_mul _ _).symm
  rw [e, sum3_coe]

theorem angle_eq (p u : Fin 3 → ℝ) (hp : 0 < dr p p) (hu : 0 < dr u u) :
    angleK (vec p) (vec u) = angleR (vec fun c => -p c) (vec u) := by
  have hn : dr (fun c => -p c) (fun c => -p c) = dr p p := by simp only [dr]; ring
  rw [angleK, angleR, acos_eq, unit3_vec _ (hn ▸ hp), unit3_vec _ hu, sum_prod, hn, Cert.KernelIdeal.Whole.lit, zero_word, dot_vec, dot_vec, len_vec, ← EReal.coe_mul,
    ← EReal.coe_mul, Real.mul_self_sqrt hp.le, rsqrt_real (mul_pos hp hu), ← EReal.coe_zero, ← EReal.coe_sub, ← EReal.coe_mul,
    Real.sqrt_mul hp.le]
  congr 2
  have h1 := (Real.sqrt_pos.2 hp).ne'
  have h2 := (Real.sqrt_pos.2 hu).ne'
  generalize Real.sqrt (dr p p) = a at *
  generalize Real.sqrt (dr u u) = b at *
  simp only [dr]
  field_simp
  ring

/-! ## The dihedral angle -/

/-- The polynomial arctangent on real numbers. -/
def atan (y x : ℝ) : ℝ :=
  let t := min |y| |x| / max |y| |x|
  let s := t * t
  let r := ((((13520921 / 536870912 * s - 12640380 / 134217728) * s + 12505400 / 67108864) * s - 11135208 / 33554432) * s
    + 16776708 / 16777216) * t
  let r1 := if |x| < |y| then 13176795 / 8388608 - r else r
  let r2 := if x < 0 then 13176795 / 4194304 - r1 else r1
  if y < 0 then -r2 else r2

theorem max_coe (a b : ℝ) : max (a : EReal) (b : EReal) = ((max a b : ℝ) : EReal) := (EReal.coe_strictMono.monotone.map_max).symm
theorem min_coe (a b : ℝ) : min (a : EReal) (b : EReal) = ((min a b : ℝ) : EReal) := (EReal.coe_strictMono.monotone.map_min).symm

theorem abs_coe (y : ℝ) : max (y : EReal) (-(y : EReal)) = ((|y| : ℝ) : EReal) := by
  rw [← EReal.coe_neg, max_coe]; rfl

theorem atan_real (y x : ℝ) (h : 0 < max |y| |x|) : atanR (y : EReal) (x : EReal) = ((atan y x : ℝ) : EReal) := by
  have t : Ideal.div (min ((|y| : ℝ) : EReal) ((|x| : ℝ) : EReal)) (max ((|y| : ℝ) : EReal) ((|x| : ℝ) : EReal))
      = ((min |y| |x| / max |y| |x| : ℝ) : EReal) := by
    rw [min_coe, max_coe, div_real _ h.ne']
  simp only [atanR, abs_coe, t]
  simp only [p0_word, p1_word, p2_word, p3_word, p4_word, quarter_word, half_word, zero_word,
    ← EReal.coe_mul, ← EReal.coe_sub, ← EReal.coe_add, sel_gt, ← EReal.coe_zero, sel_lt, atan]
  split_ifs <;> rfl

theorem atan_scale (L y x : ℝ) (hL : 0 < L) : atan (L * y) (L * x) = atan y x := by
  have hy : L * y < 0 ↔ y < 0 := by rw [mul_neg_iff]; constructor
                                    · rintro (h | h)
                                      · exact h.2
                                      · linarith [h.1]
                                    · exact fun h => Or.inl ⟨hL, h⟩
  have hx : L * x < 0 ↔ x < 0 := by rw [mul_neg_iff]; constructor
                                    · rintro (h | h)
                                      · exact h.2
                                      · linarith [h.1]
                                    · exact fun h => Or.inl ⟨hL, h⟩
  simp only [atan, abs_mul, abs_of_pos hL, hy, hx, mul_lt_mul_iff_right₀ hL, ← mul_min_of_nonneg _ _ hL.le, ← mul_max_of_nonneg _ _ hL.le,
    mul_div_mul_left _ _ hL.ne']

theorem atan_bound (y x : ℝ) : |atan y x| ≤ 13176795 / 4194304 := by
  have ht0 : 0 ≤ min |y| |x| / max |y| |x| := by positivity
  have ht1 : min |y| |x| / max |y| |x| ≤ 1 := div_le_one_of_le₀ min_le_max (by positivity)
  unfold atan
  generalize min |y| |x| / max |y| |x| = t at *
  have hs0 : 0 ≤ t * t := mul_self_nonneg t
  have hs1 : t * t ≤ 1 := by nlinarith
  dsimp only
  generalize t * t = s at *
  have b1 : (13520921 / 536870912 * s - 12640380 / 134217728 : ℝ) ≤ 0 ∧ -(1 / 8) ≤ (13520921 / 536870912 * s - 12640380 / 134217728 : ℝ) := by
    constructor <;> linarith
  generalize (13520921 / 536870912 * s - 12640380 / 134217728 : ℝ) = c at *
  have b2 : c * s + 12505400 / 67108864 ≤ 1 / 4 ∧ 0 ≤ c * s + 12505400 / 67108864 := by
    constructor <;> nlinarith
  generalize c * s + 12505400 / 67108864 = d at *
  have b3 : d * s - 11135208 / 33554432 ≤ 0 ∧ -(1 / 2) ≤ d * s - 11135208 / 33554432 := by
    constructor <;> nlinarith
  generalize d * s - 11135208 / 33554432 = e at *
  have b4 : e * s + 16776708 / 16777216 ≤ 1 ∧ 0 ≤ e * s + 16776708 / 16777216 := by
    constructor <;> nlinarith
  generalize e * s + 16776708 / 16777216 = f at *
  have b5 : f * t ≤ 1 ∧ 0 ≤ f * t := by
    constructor <;> nlinarith
  generalize f * t = r at *
  have b6 : (if |x| < |y| then 13176795 / 8388608 - r else r) ≤ 13176795 / 8388608 ∧ 0 ≤ (if |x| < |y| then 13176795 / 8388608 - r else r) := by
    split_ifs <;> constructor <;> linarith
  generalize (if |x| < |y| then 13176795 / 8388608 - r else r) = w at *
  have b7 : (if x < 0 then 13176795 / 4194304 - w else w) ≤ 13176795 / 4194304 ∧ 0 ≤ (if x < 0 then 13176795 / 4194304 - w else w) := by
    split_ifs <;> constructor <;> linarith
  generalize (if x < 0 then 13176795 / 4194304 - w else w) = z at *
  rw [abs_le]
  split_ifs <;> constructor <;> linarith

/-! ## The dihedral's two arguments -/

/-- The scaled sine: the reference's is this over the square of the middle bond. -/
def sinD (q p u : Fin 3 → ℝ) : ℝ :=
  -((p 1 * q 2 - p 2 * q 1) * u 0 + (p 2 * q 0 - p 0 * q 2) * u 1 + (p 0 * q 1 - p 1 * q 0) * u 2) * Real.sqrt (dr p p)

def cosD (q p u : Fin 3 → ℝ) : ℝ := dr q p * dr p u - dr q u * dr p p

/-- The square of the length of the cross product. -/
def crossSq (a b : Fin 3 → ℝ) : ℝ :=
  (a 1 * b 2 - a 2 * b 1) * (a 1 * b 2 - a 2 * b 1) + (a 2 * b 0 - a 0 * b 2) * (a 2 * b 0 - a 0 * b 2)
    + (a 0 * b 1 - a 1 * b 0) * (a 0 * b 1 - a 1 * b 0)

theorem sq_sum (q p u : Fin 3 → ℝ) : sinD q p u * sinD q p u + cosD q p u * cosD q p u = crossSq q p * crossSq p u := by
  have h := Real.mul_self_sqrt (dr_nonneg p)
  unfold sinD cosD crossSq
  generalize Real.sqrt (dr p p) = r at *
  simp only [dr] at *
  linear_combination (-((p 1 * q 2 - p 2 * q 1) * u 0 + (p 2 * q 0 - p 0 * q 2) * u 1 + (p 0 * q 1 - p 1 * q 0) * u 2)) ^ 2 * h

theorem lagrange (a b : Fin 3 → ℝ) : crossSq a b = dr a a * dr b b - dr a b * dr a b := by
  simp only [crossSq, dr]; ring

theorem pos_left {a b : Fin 3 → ℝ} (h : 0 < crossSq a b) : 0 < dr a a := by
  rcases (dr_nonneg a).lt_or_eq with h' | h'
  · exact h'
  · rw [lagrange, ← h'] at h
    nlinarith [mul_self_nonneg (dr a b)]

theorem pos_right {a b : Fin 3 → ℝ} (h : 0 < crossSq a b) : 0 < dr b b := by
  rcases (dr_nonneg b).lt_or_eq with h' | h'
  · exact h'
  · rw [lagrange, ← h'] at h
    nlinarith [mul_self_nonneg (dr a b)]

theorem max_pos {q p u : Fin 3 → ℝ} (h1 : 0 < crossSq q p) (h2 : 0 < crossSq p u) : 0 < max |sinD q p u| |cosD q p u| := by
  by_contra h
  rw [not_lt, max_le_iff] at h
  have e1 := abs_nonpos_iff.1 h.1
  have e2 := abs_nonpos_iff.1 h.2
  have e := sq_sum q p u
  rw [e1, e2] at e
  have := mul_pos h1 h2
  linarith

theorem dihK_real (q p u : Fin 3 → ℝ) (h1 : 0 < crossSq q p) (h2 : 0 < crossSq p u) :
    dihK (vec q) (vec p) (vec u) = ((-atan (sinD q p u) (cosD q p u) : ℝ) : EReal) := by
  have ey : (Cert.KernelIdeal.Whole.lit 0#32 - tripleK (vec q) (vec p) (vec u)) * len (vec p) = ((sinD q p u : ℝ) : EReal) := by
    rw [len_vec]
    simp only [tripleK, vec, zero_word, zero_sub, ← EReal.coe_mul, ← EReal.coe_sub, ← EReal.coe_add, ← EReal.coe_neg, sinD]
  have ex : dot (vec q) (vec p) * dot (vec p) (vec u) - dot (vec q) (vec u) * (len (vec p) * len (vec p)) = ((cosD q p u : ℝ) : EReal) := by
    simp only [len_vec, dot_vec, ← EReal.coe_mul, ← EReal.coe_sub, Real.mul_self_sqrt (dr_nonneg p), cosD]
  rw [dihK, ey, ex, atan_eq, atan_real _ _ (max_pos h1 h2), Cert.KernelIdeal.Whole.lit, zero_word, zero_sub, EReal.coe_neg]

theorem reject_vec (b p : Fin 3 → ℝ) (h : 0 < dr p p) : reject (vec b) (vec p) = vec fun c => b c - dr b p / dr p p * p c :=
  funext fun c => by
    have hs := Real.mul_self_sqrt h.le
    have hr := (Real.sqrt_pos.2 h).ne'
    rw [reject, unit3_vec p h, sum_prod]
    simp only [vec, ← EReal.coe_mul, ← EReal.coe_sub]
    congr 2
    rw [show dr b p / dr p p = dr b p / (Real.sqrt (dr p p) * Real.sqrt (dr p p)) by rw [hs]]
    generalize Real.sqrt (dr p p) = r at *
    simp only [dr]
    field_simp

theorem dihR_real (q p u : Fin 3 → ℝ) (h1 : 0 < crossSq q p) (h2 : 0 < crossSq p u) :
    dihedralR (vec fun c => -q c) (vec p) (vec u) = ((-atan (sinD q p u) (cosD q p u) : ℝ) : EReal) := by
  have hp := pos_right h1
  have hs := Real.mul_self_sqrt hp.le
  have hr := (Real.sqrt_pos.2 hp).ne'
  have ex : (sum3 fun c => reject (vec fun c => -q c) (vec p) c * reject (vec u) (vec p) c) = (((dr p p)⁻¹ * cosD q p u : ℝ) : EReal) := by
    rw [reject_vec _ _ hp, reject_vec _ _ hp, sum_prod]
    congr 1
    have hn := hp.ne'
    simp only [cosD]
    have e : dr p p = p 0 * p 0 + p 1 * p 1 + p 2 * p 2 := rfl
    generalize dr p p = d at *
    simp only [dr]
    field_simp
    rw [e]
    ring
  have ec : cross3 (unit3 (vec p)) (reject (vec fun c => -q c) (vec p))
      = vec ![-(p 1 * q 2 - p 2 * q 1) / Real.sqrt (dr p p), -(p 2 * q 0 - p 0 * q 2) / Real.sqrt (dr p p), -(p 0 * q 1 - p 1 * q 0) / Real.sqrt (dr p p)] := by
    rw [reject_vec _ _ hp, unit3_vec p hp]
    funext c
    match c with
    | 0 =>
      show vec _ 1 * vec _ 2 - vec _ 2 * vec _ 1 = _
      simp only [vec, ← EReal.coe_mul, ← EReal.coe_sub]
      congr 1
      simp only [Matrix.cons_val]
      ring
    | 1 =>
      show vec _ 2 * vec _ 0 - vec _ 0 * vec _ 2 = _
      simp only [vec, ← EReal.coe_mul, ← EReal.coe_sub]
      congr 1
      simp only [Matrix.cons_val]
      ring
    | 2 =>
      show vec _ 0 * vec _ 1 - vec _ 1 * vec _ 0 = _
      simp only [vec, ← EReal.coe_mul, ← EReal.coe_sub]
      congr 1
      simp only [Matrix.cons_val]
      ring
  have ey : (sum3 fun c => cross3 (unit3 (vec p)) (reject (vec fun c => -q c) (vec p)) c * reject (vec u) (vec p) c)
      = (((dr p p)⁻¹ * sinD q p u : ℝ) : EReal) := by
    rw [ec, reject_vec _ _ hp, sum_prod]
    congr 1
    simp only [dr, Matrix.cons_val, sinD] at *
    generalize (p 0 * p 0 + p 1 * p 1 + p 2 * p 2) = d at *
    generalize Real.sqrt d = r at *
    rw [← hs]
    field_simp
    ring
  rw [dihedralR, ey, ex, atan_real, atan_scale _ _ _ (inv_pos.2 hp), EReal.coe_neg]
  rw [abs_mul, abs_mul, ← mul_max_of_nonneg _ _ (abs_nonneg _)]
  exact mul_pos (abs_pos.2 (inv_pos.2 hp).ne') (max_pos h1 h2)

/-! ## One turn -/

theorem inv_turn : invTwoPi = ((2097152 / 13176795 : ℝ) : EReal) := rfl

theorem wrap_eq (d : ℝ) (h : |d| < 3 * (13176795 / 4194304)) : wrapK (d : EReal) = wrapR (d : EReal) := by
  rw [abs_lt] at h
  have key : ∀ k : ℤ, Ideal.roundHalfEven (d * (2097152 / 13176795)) = k →
      wrapK (d : EReal) = ((d - 13176795 / 2097152 * (k : ℝ) : ℝ) : EReal) := fun k hk => by
    rw [wrapK, inv_turn, Cert.KernelIdeal.Whole.lit, turn_word, ← EReal.coe_mul, Ideal.liftRound_coe, hk, ← EReal.coe_mul, ← EReal.coe_sub]
  have fl : ∀ k : ℤ, (k : ℝ) ≤ d * (2097152 / 13176795) → d * (2097152 / 13176795) < k + 1 → ⌊d * (2097152 / 13176795)⌋ = k :=
    fun k h1 h2 => Int.floor_eq_iff.2 ⟨h1, h2⟩
  simp only [wrapR, turn_word, half_word, minus_half_word, sel_lt, sel_gt, ← EReal.coe_add, ← EReal.coe_sub]
  rcases lt_or_ge d (-(13176795 / 4194304)) with c | c
  · have r : Ideal.roundHalfEven (d * (2097152 / 13176795)) = -1 := by
      rcases lt_or_ge (d * (2097152 / 13176795)) (-1) with c' | c'
      · have f := fl (-2) (by push_cast; linarith) (by push_cast; linarith)
        simp only [Ideal.roundHalfEven, f]
        rw [if_neg (by push_cast; linarith), if_pos (by push_cast; linarith)]
        rfl
      · have f := fl (-1) (by push_cast; linarith) (by push_cast; linarith)
        simp only [Ideal.roundHalfEven, f]
        rw [if_pos (by push_cast; linarith)]
    rw [key _ r, if_pos c, sel_gt, if_neg (by linarith)]
    congr 1
    push_cast
    ring
  · rw [if_neg (not_lt.2 c), sel_gt]
    rcases lt_or_ge (13176795 / 4194304) d with c2 | c2
    · have r : Ideal.roundHalfEven (d * (2097152 / 13176795)) = 1 := by
        rcases lt_or_ge (d * (2097152 / 13176795)) 1 with c' | c'
        · have f := fl 0 (by push_cast; linarith) (by push_cast; linarith)
          simp only [Ideal.roundHalfEven, f]
          rw [if_neg (by push_cast; linarith), if_pos (by push_cast; linarith)]
          rfl
        · have f := fl 1 (by push_cast; linarith) (by push_cast; linarith)
          simp only [Ideal.roundHalfEven, f]
          rw [if_pos (by push_cast; linarith)]
      rw [key _ r, if_pos c2]
      congr 1
      push_cast
      ring
    · have r : Ideal.roundHalfEven (d * (2097152 / 13176795)) = 0 := by
        rcases lt_or_ge (d * (2097152 / 13176795)) 0 with c' | c'
        · have f := fl (-1) (by push_cast; linarith) (by push_cast; linarith)
          simp only [Ideal.roundHalfEven, f]
          rw [if_neg (by push_cast; linarith)]
          split_ifs with h1 h2
          · rfl
          · exact absurd h2 (by decide)
          · rfl
        · have f := fl 0 (by push_cast; linarith) (by push_cast; linarith)
          simp only [Ideal.roundHalfEven, f]
          split_ifs with h1 h2 h3
          · rfl
          · exact absurd h2 (by push_cast; linarith)
          · rfl
          · exact absurd (by decide) h3
      rw [key _ r, if_neg (not_lt.2 c2)]
      congr 1
      push_cast
      ring

end Cert.Agree
end
-- ==== Proof.PreFacts.lean ====
/- What the precondition says of the arguments, in plain terms. -/
module

public import proofs.«01_k».proof.Proof.Agree
public import proofs.«01_k».proof.Proof.Gen.Pre_chain

@[expose] public section

set_option maxRecDepth 16384

noncomputable section

namespace Cert.Pre_chain.Whole

open Idealize.ShloMosaic hiding ix0 ix1 ix2 ix3
open Idealize.ShloMosaic.ValueIdx
open Cert.Pre_chain Facts
open Cert.ReferenceIdeal.Whole (Atoms Columns)

local notation "𝔽" => Idealize.ShloMosaic.Ideal

/-- One coordinate of every atom, less that of the atom before. -/
def steps (w : FVec 𝔽 S2048x2048 .f32) : FVec 𝔽 S2048x2047 .f32 :=
  subf (extractStridedSlice S2048x2047 ![0, 1] w slices_S2048x2048_S2048x2047_0_1) (extractStridedSlice S2048x2047 ![0, 0] w slices_S2048x2048_S2048x2047_0_0)

def early (d : FVec 𝔽 S2048x2047 .f32) : FVec 𝔽 S2048x2046 .f32 := extractStridedSlice S2048x2046 ![0, 0] d slices_S2048x2047_S2048x2046_0_0
def late (d : FVec 𝔽 S2048x2047 .f32) : FVec 𝔽 S2048x2046 .f32 := extractStridedSlice S2048x2046 ![0, 1] d slices_S2048x2047_S2048x2046_0_1

theorem steps_at (w : FVec 𝔽 S2048x2048 .f32) (B : Fin 2048) (j : ℕ) (h : j < 2047) :
    steps w (ix2 B ⟨j, h⟩) = w (ix2 B ⟨j + 1, by omega⟩) - w (ix2 B ⟨j, by omega⟩) := by
  show extractStridedSlice S2048x2047 ![0, 1] w _ (ix2 B ⟨j, h⟩) - extractStridedSlice S2048x2047 ![0, 0] w _ (ix2 B ⟨j, h⟩) = _
  rw [extractStridedSlice_apply ![0, 1] w _ (ix2 B ⟨j, h⟩) (ix2 B ⟨j + 1, by omega⟩) (fun a => match a with
      | ⟨0, _⟩ => (Nat.zero_add B.val).symm
      | ⟨1, _⟩ => Nat.add_comm j 1),
    extractStridedSlice_apply ![0, 0] w _ (ix2 B ⟨j, h⟩) (ix2 B ⟨j, by omega⟩) (fun a => match a with
      | ⟨0, _⟩ => (Nat.zero_add B.val).symm
      | ⟨1, _⟩ => (Nat.zero_add j).symm)]

theorem early_at (w : FVec 𝔽 S2048x2047 .f32) (B : Fin 2048) (j : ℕ) (h : j < 2046) : early w (ix2 B ⟨j, h⟩) = w (ix2 B ⟨j, by omega⟩) :=
  extractStridedSlice_apply ![0, 0] w _ (ix2 B ⟨j, h⟩) (ix2 B ⟨j, by omega⟩) (fun a => match a with
      | ⟨0, _⟩ => (Nat.zero_add B.val).symm
      | ⟨1, _⟩ => (Nat.zero_add j).symm)

theorem late_at (w : FVec 𝔽 S2048x2047 .f32) (B : Fin 2048) (j : ℕ) (h : j < 2046) : late w (ix2 B ⟨j, h⟩) = w (ix2 B ⟨j + 1, by omega⟩) :=
  extractStridedSlice_apply ![0, 1] w _ (ix2 B ⟨j, h⟩) (ix2 B ⟨j + 1, by omega⟩) (fun a => match a with
      | ⟨0, _⟩ => (Nat.zero_add B.val).symm
      | ⟨1, _⟩ => Nat.add_comm j 1)

def coord0 (x : FVec 𝔽 S2048x6144 .f32) : FVec 𝔽 S2048x2048 .f32 := Host.slice S2048x2048 ![0, 0] ![1, 3] x slicesBy_S2048x6144_S2048x2048_0s1_0s3

theorem coord0_at (x : FVec 𝔽 S2048x6144 .f32) (B : Fin 2048) (j : ℕ) (h : j < 2048) : coord0 x (ix2 B ⟨j, h⟩) = x (ix2 B ⟨3 * j + 0, by omega⟩) :=
  congrArg x (funext fun a => match a with
    | ⟨0, _⟩ => Fin.ext (by show 0 + 1 * B.val = B.val; omega)
    | ⟨1, _⟩ => Fin.ext (by show 0 + 3 * j = 3 * j + 0; omega))

def coord1 (x : FVec 𝔽 S2048x6144 .f32) : FVec 𝔽 S2048x2048 .f32 := Host.slice S2048x2048 ![0, 1] ![1, 3] x slicesBy_S2048x6144_S2048x2048_0s1_1s3

theorem coord1_at (x : FVec 𝔽 S2048x6144 .f32) (B : Fin 2048) (j : ℕ) (h : j < 2048) : coord1 x (ix2 B ⟨j, h⟩) = x (ix2 B ⟨3 * j + 1, by omega⟩) :=
  congrArg x (funext fun a => match a with
    | ⟨0, _⟩ => Fin.ext (by show 0 + 1 * B.val = B.val; omega)
    | ⟨1, _⟩ => Fin.ext (by show 1 + 3 * j = 3 * j + 1; omega))

def coord2 (x : FVec 𝔽 S2048x6144 .f32) : FVec 𝔽 S2048x2048 .f32 := Host.slice S2048x2048 ![0, 2] ![1, 3] x slicesBy_S2048x6144_S2048x2048_0s1_2s3

theorem coord2_at (x : FVec 𝔽 S2048x6144 .f32) (B : Fin 2048) (j : ℕ) (h : j < 2048) : coord2 x (ix2 B ⟨j, h⟩) = x (ix2 B ⟨3 * j + 2, by omega⟩) :=
  congrArg x (funext fun a => match a with
    | ⟨0, _⟩ => Fin.ext (by show 0 + 1 * B.val = B.val; omega)
    | ⟨1, _⟩ => Fin.ext (by show 2 + 3 * j = 3 * j + 2; omega))

/-- The bond vector from atom `j` to atom `j + 1`. -/
def step (x : FVec 𝔽 S2048x6144 .f32) (B : Fin 2048) (j : ℕ) (h : j < 2047) (c : Fin 3) : EReal :=
  x (ix2 B ⟨3 * (j + 1) + c.val, by have := c.isLt; omega⟩) - x (ix2 B ⟨3 * j + c.val, by have := c.isLt; omega⟩)

/-- The square of the length of the cross product, as the precondition writes it. -/
def area (a b : Fin 3 → EReal) : EReal :=
  ((a 1 * b 2 - a 2 * b 1) * (a 1 * b 2 - a 2 * b 1) + (a 2 * b 0 - a 0 * b 2) * (a 2 * b 0 - a 0 * b 2))
    + (a 0 * b 1 - a 1 * b 0) * (a 0 * b 1 - a 1 * b 0)

/-- No three atoms in a row lie on one line. -/
def Bent (x : FVec 𝔽 S2048x6144 .f32) : Prop :=
  ∀ (B : Fin 2048) (j : ℕ) (hj : j < 2046), 0 < area (step x B j (Nat.lt_succ_of_lt hj)) (step x B (j + 1) (Nat.succ_lt_succ hj))

theorem one_olt {a b : EReal} (h : Ideal.cmp .olt a b = 1#1) : a < b := by
  by_contra h'; simp [Ideal.cmp, h'] at h
theorem one_ogt {a b : EReal} (h : Ideal.cmp .ogt a b = 1#1) : b < a := by
  by_contra h'; simp [Ideal.cmp, h'] at h
theorem one_ole {a b : EReal} (h : Ideal.cmp .ole a b = 1#1) : a ≤ b := by
  by_contra h'; simp [Ideal.cmp, h'] at h
theorem one_une {a b : EReal} (h : Ideal.cmp .une a b = 1#1) : a ≠ b := by
  intro h'; simp [Ideal.cmp, h'] at h
theorem one_eq {a b : BitVec 32} (h : IntOp.cmpi .eq a b = 1#1) : a = b := by
  by_contra h'; simp [IntOp.cmpi] at h; rw [beq_eq_false_iff_ne.2 h'] at h; exact absurd h (by decide)

theorem infinity : Ideal.ofBits .f32 0x7F800000#32 = ⊤ := by simp [Ideal.ofBits, Ideal.ieee]
theorem bound_word : Ideal.ofBits .f32 0x404CCCCD#32 = ((13421773 / 4194304 : ℝ) : EReal) := by
  simp [Ideal.ofBits, Ideal.ieee, -EReal.coe_mul]; norm_num

theorem finite_of {v : EReal} (h : max v (-v) < ⊤) : ∃ r : ℝ, v = (r : EReal) := by
  induction v using EReal.rec with
  | bot => simp at h
  | top => simp at h
  | coe r => exact ⟨r, rfl⟩

section
variable (x : FVec 𝔽 S2048x6144 .f32) (a1 a2 a3 a4 a5 a6 : FVec 𝔽 S2045 .f32) (t1 t2 t3 t4 : IVec S2045x3 32) (tb ta td : IVec S2045 32)

local notation "P" => Cert.Pre_chain.fn (F := 𝔽) x a1 a2 a3 a4 a5 a6 t1 t2 t3 t4 tb ta td

theorem finite_x (h : P.1 = fun _ => 1#1) (i : S2048x6144.Idx) : ∃ r : ℝ, x i = (r : EReal) :=
  finite_of (infinity ▸ one_olt (congrFun h i))

theorem bent (h : P.2.1 = fun _ => 1#1) (B : Fin 2048) (j : ℕ) (hj : j < 2046) :
    0 < area (step x B j (by omega)) (step x B (j + 1) (by omega)) := by
  have e : P.2.1 (ix2 B ⟨j, hj⟩) = Ideal.cmp .ogt (area
      ![early (steps (coord0 x)) (ix2 B ⟨j, hj⟩), early (steps (coord1 x)) (ix2 B ⟨j, hj⟩), early (steps (coord2 x)) (ix2 B ⟨j, hj⟩)]
      ![late (steps (coord0 x)) (ix2 B ⟨j, hj⟩), late (steps (coord1 x)) (ix2 B ⟨j, hj⟩), late (steps (coord2 x)) (ix2 B ⟨j, hj⟩)])
      (Ideal.ofBits .f32 0x00000000#32) := rfl
  rw [h] at e
  have g := one_ogt e.symm
  rw [Cert.Agree.zero_word] at g
  have e0 : ![early (steps (coord0 x)) (ix2 B ⟨j, hj⟩), early (steps (coord1 x)) (ix2 B ⟨j, hj⟩), early (steps (coord2 x)) (ix2 B ⟨j, hj⟩)]
      = step x B j (by omega) := funext fun c => match c with
    | 0 => (early_at _ B j hj).trans ((steps_at _ B j (by omega)).trans (congrArg₂ (· - ·) (coord0_at x B _ (by omega)) (coord0_at x B _ (by omega))))
    | 1 => (early_at _ B j hj).trans ((steps_at _ B j (by omega)).trans (congrArg₂ (· - ·) (coord1_at x B _ (by omega)) (coord1_at x B _ (by omega))))
    | 2 => (early_at _ B j hj).trans ((steps_at _ B j (by omega)).trans (congrArg₂ (· - ·) (coord2_at x B _ (by omega)) (coord2_at x B _ (by omega))))
  have e1 : ![late (steps (coord0 x)) (ix2 B ⟨j, hj⟩), late (steps (coord1 x)) (ix2 B ⟨j, hj⟩), late (steps (coord2 x)) (ix2 B ⟨j, hj⟩)]
      = step x B (j + 1) (by omega) := funext fun c => match c with
    | 0 => (late_at _ B j hj).trans ((steps_at _ B (j + 1) (by omega)).trans (congrArg₂ (· - ·) (coord0_at x B _ (by omega)) (coord0_at x B _ (by omega))))
    | 1 => (late_at _ B j hj).trans ((steps_at _ B (j + 1) (by omega)).trans (congrArg₂ (· - ·) (coord1_at x B _ (by omega)) (coord1_at x B _ (by omega))))
    | 2 => (late_at _ B j hj).trans ((steps_at _ B (j + 1) (by omega)).trans (congrArg₂ (· - ·) (coord2_at x B _ (by omega)) (coord2_at x B _ (by omega))))
  rw [e0, e1] at g
  exact g

theorem std_bonds (h : P.2.2.1 = fun _ => 1#1) (n : Fin 2045) : a2 (ix1 n) ≠ 0 := Cert.Agree.zero_word ▸ one_une (congrFun h (ix1 n))
theorem std_angles (h : P.2.2.2.1 = fun _ => 1#1) (n : Fin 2045) : a4 (ix1 n) ≠ 0 := Cert.Agree.zero_word ▸ one_une (congrFun h (ix1 n))
theorem std_dih (h : P.2.2.2.2.1 = fun _ => 1#1) (n : Fin 2045) : a6 (ix1 n) ≠ 0 := Cert.Agree.zero_word ▸ one_une (congrFun h (ix1 n))

theorem mean_dih (h : P.2.2.2.2.2.1 = fun _ => 1#1) (n : Fin 2045) : ∃ r : ℝ, a5 (ix1 n) = (r : EReal) ∧ |r| ≤ 13421773 / 4194304 := by
  have g : max (a5 (ix1 n)) (-a5 (ix1 n)) ≤ Ideal.ofBits .f32 0x404CCCCD#32 := one_ole (congrFun h (ix1 n))
  rw [bound_word] at g
  obtain ⟨r, hr⟩ := finite_of (g.trans_lt (EReal.coe_lt_top _))
  refine ⟨r, hr, ?_⟩
  rw [hr, Cert.Agree.abs_coe] at g
  exact EReal.coe_le_coe_iff.1 g

theorem atoms_t1 (h : P.2.2.2.2.2.2.1 = fun _ => 1#1) : Atoms t1 6 := fun n c => by
  have e : t1 (ix2 n c) = 3#32 * BitVec.ofNat 32 n.val + BitVec.ofNat 32 c.val + 6#32 := one_eq (congrFun h (ix2 n c))
  rw [e]
  apply BitVec.eq_of_toNat_eq
  simp only [BitVec.toNat_add, BitVec.toNat_mul, BitVec.toNat_ofNat]
  omega

theorem atoms_t2 (h : P.2.2.2.2.2.2.2.1 = fun _ => 1#1) : Atoms t2 3 := fun n c => by
  have e : t2 (ix2 n c) = 3#32 * BitVec.ofNat 32 n.val + BitVec.ofNat 32 c.val + 3#32 := one_eq (congrFun h (ix2 n c))
  rw [e]
  apply BitVec.eq_of_toNat_eq
  simp only [BitVec.toNat_add, BitVec.toNat_mul, BitVec.toNat_ofNat]
  omega

theorem atoms_t3 (h : P.2.2.2.2.2.2.2.2.1 = fun _ => 1#1) : Atoms t3 0 := fun n c => by
  have e : t3 (ix2 n c) = 3#32 * BitVec.ofNat 32 n.val + BitVec.ofNat 32 c.val := one_eq (congrFun h (ix2 n c))
  rw [e]
  apply BitVec.eq_of_toNat_eq
  simp only [BitVec.toNat_add, BitVec.toNat_mul, BitVec.toNat_ofNat]
  omega

theorem atoms_t4 (h : P.2.2.2.2.2.2.2.2.2.1 = fun _ => 1#1) : Atoms t4 9 := fun n c => by
  have e : t4 (ix2 n c) = 3#32 * BitVec.ofNat 32 n.val + BitVec.ofNat 32 c.val + 9#32 := one_eq (congrFun h (ix2 n c))
  rw [e]
  apply BitVec.eq_of_toNat_eq
  simp only [BitVec.toNat_add, BitVec.toNat_mul, BitVec.toNat_ofNat]
  omega

theorem columns_tb (h : P.2.2.2.2.2.2.2.2.2.2.1 = fun _ => 1#1) : Columns tb 9 := fun n => by
  have e : tb (ix1 n) = 3#32 * BitVec.ofNat 32 n.val + 9#32 := one_eq (congrFun h (ix1 n))
  rw [e]
  apply BitVec.eq_of_toNat_eq
  simp only [BitVec.toNat_add, BitVec.toNat_mul, BitVec.toNat_ofNat]
  omega

theorem columns_ta (h : P.2.2.2.2.2.2.2.2.2.2.2.1 = fun _ => 1#1) : Columns ta 10 := fun n => by
  have e : ta (ix1 n) = 3#32 * BitVec.ofNat 32 n.val + 10#32 := one_eq (congrFun h (ix1 n))
  rw [e]
  apply BitVec.eq_of_toNat_eq
  simp only [BitVec.toNat_add, BitVec.toNat_mul, BitVec.toNat_ofNat]
  omega

theorem columns_td (h : P.2.2.2.2.2.2.2.2.2.2.2.2 = fun _ => 1#1) : Columns td 11 := fun n => by
  have e : td (ix1 n) = 3#32 * BitVec.ofNat 32 n.val + 11#32 := one_eq (congrFun h (ix1 n))
  rw [e]
  apply BitVec.eq_of_toNat_eq
  simp only [BitVec.toNat_add, BitVec.toNat_mul, BitVec.toNat_ofNat]
  omega

end

end Cert.Pre_chain.Whole
end
-- ==== Proof.Same.lean ====
/- The kernel's whole result is the reference's, under the precondition. -/
module

public import proofs.«01_k».proof.Proof.KValue
public import proofs.«01_k».proof.Proof.PreFacts

@[expose] public section

set_option maxRecDepth 16384

noncomputable section

namespace Cert.Same

open Idealize.ShloMosaic hiding ix0 ix1 ix2 ix3
open Idealize.ShloMosaic.ValueIdx
open Cert.KernelIdeal (S2048x6144 S2045 S6x2045)
open Cert.KernelIdeal.Whole (dot len angleK dihK wrapK entryK colX bondX statX resultX tables tables_at)
open Cert.ReferenceIdeal.Whole (atom Atoms Columns bondR angleR dihedralR wrapR)
open Cert.Pre_chain.Whole (step area)
open Cert.Agree

local notation "𝔽" => Idealize.ShloMosaic.Ideal

theorem colX_at (X : Vec 𝔽 S2048x6144 .f32) (B : Fin 2048) (m : ℕ) (h : m < 6144) : colX X B m = X (ix2 B ⟨m, h⟩) :=
  congrArg (fun k => X (ix2 B k)) (Fin.ext (Nat.mod_eq_of_lt h))

theorem area_vec (a b : Fin 3 → ℝ) : area (vec a) (vec b) = ((crossSq a b : ℝ) : EReal) := by
  simp only [area, vec, crossSq, ← EReal.coe_mul, ← EReal.coe_sub, ← EReal.coe_add]

theorem mul_inv_div (a s : EReal) (h : s ≠ 0) : a * Ideal.div (Ideal.ofBits .f32 0x3F800000#32) s = Ideal.div a s := by
  have one : Ideal.ofBits .f32 0x3F800000#32 = 1 := by simp [Ideal.ofBits, Ideal.ieee, -EReal.coe_mul]; norm_num
  rw [one, Ideal.div, Ideal.div, if_neg h, if_neg h, one_mul]

section
variable (x : Vec 𝔽 S2048x6144 .f32) (a1 a2 a3 a4 a5 a6 : (⟨S2045, .f32⟩ : BufTy).Contents (Elt 𝔽))

/-- The kernel's result in the columns of atom `n + 3`, from the three bond vectors that end there. -/
theorem entry_at (B : Fin 2048) (n : Fin 2045) (q p u : Fin 3 → EReal) (T : (⟨S6x2045, .f32⟩ : BufTy).Contents (Elt 𝔽))
    (hq : ∀ c : Fin 3, x (ix2 B ⟨3 * n.val + 3 + c.val, by omega⟩) - x (ix2 B ⟨3 * n.val + 0 + c.val, by omega⟩) = q c)
    (hp : ∀ c : Fin 3, x (ix2 B ⟨3 * n.val + 6 + c.val, by omega⟩) - x (ix2 B ⟨3 * n.val + 3 + c.val, by omega⟩) = p c)
    (hu : ∀ c : Fin 3, x (ix2 B ⟨3 * n.val + 9 + c.val, by omega⟩) - x (ix2 B ⟨3 * n.val + 6 + c.val, by omega⟩) = u c)
    (k : Fin 6144) (c : ℕ) (hc : c < 3) (hk : k.val = 3 * n.val + 9 + c) :
    resultX x T (ix2 B k) = entryK q p u (statX T (n.val + 3)) c := by
  have hn := n.isLt
  have d : k.val / 3 = n.val + 3 := by omega
  have r : k.val % 3 = c := by omega
  have bond : ∀ (j o o' : ℕ) (v : Fin 3 → EReal) (ho : 3 * j = 3 * n.val + o) (ho' : o = o' + 3) (hl : o < 10)
      (hv : ∀ c : Fin 3, x (ix2 B ⟨3 * n.val + o + c.val, by omega⟩) - x (ix2 B ⟨3 * n.val + o' + c.val, by omega⟩) = v c),
      bondX x B j = v := fun j o o' v ho ho' hl hv => funext fun e => by
    rw [← hv e, bondX, colX_at x B _ (by omega), colX_at x B _ (by omega)]
    exact congrArg₂ (fun a b => x (ix2 B a) - x (ix2 B b)) (Fin.ext (by show 3 * j + e.val = 3 * n.val + o + e.val; omega)) (Fin.ext (by show 3 * j + e.val - 3 = 3 * n.val + o' + e.val; omega))
  show (if k.val < 9 then x (ix2 B k) else entryK (bondX x B (k.val / 3 - 2)) (bondX x B (k.val / 3 - 1)) (bondX x B (k.val / 3))
    (statX T (k.val / 3)) (k.val % 3)) = _
  rw [if_neg (by omega), d, r, bond (n.val + 3 - 2) 3 0 q (by omega) rfl (by decide) hq, bond (n.val + 3 - 1) 6 3 p (by omega) rfl (by decide) hp,
    bond (n.val + 3) 9 6 u (by omega) rfl (by decide) hu]

theorem stat_mean (n : Fin 2045) (r : Fin 6) (hr : r.val < 3) (T : (⟨S6x2045, .f32⟩ : BufTy).Contents (Elt 𝔽)) :
    statX T (n.val + 3) r = T (ix2 r n) := by
  rw [statX, if_pos hr]
  exact congrArg (fun k => T (ix2 r k)) (Fin.ext (by show (n.val + 3 - 3) % 2045 = n.val; have := n.isLt; omega))

theorem stat_std (n : Fin 2045) (r : Fin 6) (hr : ¬r.val < 3) (T : (⟨S6x2045, .f32⟩ : BufTy).Contents (Elt 𝔽)) :
    statX T (n.val + 3) r = Ideal.div (Ideal.ofBits .f32 0x3F800000#32) (T (ix2 r n)) := by
  rw [statX, if_neg hr]
  exact congrArg (fun k => Ideal.div (Ideal.ofBits .f32 0x3F800000#32) (T (ix2 r k))) (Fin.ext (by show (n.val + 3 - 3) % 2045 = n.val; have := n.isLt; omega))

variable (t1 t2 t3 t4 : (⟨Cert.ReferenceIdeal.S2045x3, .i32⟩ : BufTy).Contents (Elt 𝔽)) (tb ta td : (⟨S2045, .i32⟩ : BufTy).Contents (Elt 𝔽))
  (h1 : Atoms t1 6) (h2 : Atoms t2 3) (h3 : Atoms t3 0) (h4 : Atoms t4 9)
  (hb : Columns tb 9) (ha : Columns ta 10) (hd : Columns td 11)
  (hx : ∀ i, ∃ r : ℝ, x i = (r : EReal))
  (bent : Cert.Pre_chain.Whole.Bent x)
  (s2 : ∀ n : Fin 2045, a2 (ix1 n) ≠ 0) (s4 : ∀ n : Fin 2045, a4 (ix1 n) ≠ 0) (s6 : ∀ n : Fin 2045, a6 (ix1 n) ≠ 0)
  (m5 : ∀ n : Fin 2045, ∃ r : ℝ, a5 (ix1 n) = (r : EReal) ∧ |r| ≤ 13421773 / 4194304)
include h1 h2 h3 h4 hb ha hd hx bent s2 s4 s6 m5

theorem same : resultX x (tables a1 a3 a5 a2 a4 a6) = Cert.ReferenceIdeal.Read.val_main_v237 (F := 𝔽) x a1 a2 a3 a4 a5 a6 t1 t2 t3 t4 tb ta td := by
  funext i
  obtain ⟨B, k, rfl⟩ : ∃ (B : Fin 2048) (k : Fin 6144), i = ix2 B k :=
    ⟨i 0, i 1, funext fun a => match a with | ⟨0, _⟩ => rfl | ⟨1, _⟩ => rfl⟩
  have hk := k.isLt
  by_cases h9 : k.val < 9
  · rw [Cert.ReferenceIdeal.Whole.first_columns x a1 a2 a3 a4 a5 a6 t1 t2 t3 t4 tb ta td h1 h2 h3 h4 hb ha hd B k h9]
    exact if_pos h9
  obtain ⟨R, hR⟩ : ∃ R : S2048x6144.Idx → ℝ, ∀ i, x i = (R i : EReal) := ⟨fun i => (hx i).choose, fun i => (hx i).choose_spec⟩
  obtain ⟨n, c, hc, hkn⟩ : ∃ (n : Fin 2045) (c : ℕ), c < 3 ∧ k.val = 3 * n.val + 9 + c :=
    ⟨⟨k.val / 3 - 3, by omega⟩, k.val % 3, by omega, by show k.val = 3 * (k.val / 3 - 3) + 9 + k.val % 3; omega⟩
  have hn := n.isLt
  let A : ∀ o : Fin 10, Fin 3 → ℝ := fun o c => R (ix2 B ⟨3 * n.val + o.val + c.val, by have := o.isLt; have := c.isLt; omega⟩)
  have hA : ∀ (o : Fin 10) (c : Fin 3), atom x B n o c = ((A o c : ℝ) : EReal) := fun o c => hR _
  let q : Fin 3 → ℝ := fun c => A 3 c - A 0 c
  let p : Fin 3 → ℝ := fun c => A 6 c - A 3 c
  let u : Fin 3 → ℝ := fun c => A 9 c - A 6 c
  have eU : (fun c => atom x B n 9 c - atom x B n 6 c) = vec u := funext fun c => by rw [hA, hA]; exact (EReal.coe_sub _ _).symm
  have eP : (fun c => atom x B n 6 c - atom x B n 3 c) = vec p := funext fun c => by rw [hA, hA]; exact (EReal.coe_sub _ _).symm
  have eB : (fun c => atom x B n 3 c - atom x B n 6 c) = vec fun c => -p c := funext fun c => by
    rw [hA, hA, ← EReal.coe_sub]
    exact congrArg _ (neg_sub _ _).symm
  have eQ : (fun c => atom x B n 0 c - atom x B n 3 c) = vec fun c => -q c := funext fun c => by
    rw [hA, hA, ← EReal.coe_sub]
    exact congrArg _ (neg_sub _ _).symm
  have eQ' : (fun c => atom x B n 3 c - atom x B n 0 c) = vec q := funext fun c => by rw [hA, hA]; exact (EReal.coe_sub _ _).symm
  have stepq : step x B n.val (by omega) = vec q := funext fun c => (congrFun eQ' c).symm ▸ rfl
  have stepp : step x B (n.val + 1) (by omega) = vec p := funext fun c => (congrFun eP c).symm ▸ rfl
  have stepu : step x B (n.val + 1 + 1) (by omega) = vec u := funext fun c => (congrFun eU c).symm ▸ rfl
  have k1 : 0 < crossSq q p := by
    have := bent B n.val (by omega)
    rw [stepq, stepp, area_vec] at this
    exact EReal.coe_pos.1 this
  have k2 : 0 < crossSq p u := by
    have := bent B (n.val + 1) (by omega)
    rw [stepp, stepu, area_vec] at this
    exact EReal.coe_pos.1 this
  rw [entry_at x B n (vec q) (vec p) (vec u) _ (congrFun eQ') (congrFun eP) (congrFun eU) k c hc hkn]
  match c, hc, hkn with
  | 0, _, hkn =>
    rw [show k = ⟨3 * n.val + 9, by omega⟩ from Fin.ext hkn]
    rw [Cert.ReferenceIdeal.Whole.bond_column x a1 a2 a3 a4 a5 a6 t1 t2 t3 t4 tb ta td h1 h2 h3 h4 hb ha hd B n, eU, ← bond_eq, entryK, if_pos rfl,
      stat_mean n 0 (by decide), stat_std n 3 (by decide), tables_at, tables_at]
    exact mul_inv_div _ _ (s2 n)
  | 1, _, hkn =>
    rw [show k = ⟨3 * n.val + 10, by omega⟩ from Fin.ext hkn]
    rw [Cert.ReferenceIdeal.Whole.angle_column x a1 a2 a3 a4 a5 a6 t1 t2 t3 t4 tb ta td h1 h2 h3 h4 hb ha hd B n, eU, eB,
      ← angle_eq p u (pos_right k1) (pos_right k2), entryK, if_neg (by decide), if_pos rfl,
      stat_mean n 1 (by decide), stat_std n 4 (by decide), tables_at, tables_at]
    exact mul_inv_div _ _ (s4 n)
  | 2, _, hkn =>
    rw [show k = ⟨3 * n.val + 11, by omega⟩ from Fin.ext hkn]
    obtain ⟨r, hr, hr'⟩ := m5 n
    rw [Cert.ReferenceIdeal.Whole.dih_column x a1 a2 a3 a4 a5 a6 t1 t2 t3 t4 tb ta td h1 h2 h3 h4 hb ha hd B n, eU, eP, eQ,
      dihR_real q p u k1 k2, hr, ← EReal.coe_sub, ← wrap_eq _ ?_, entryK, if_neg (by decide), if_neg (by decide), dihK_real q p u k1 k2,
      stat_mean n 2 (by decide), stat_std n 5 (by decide), tables_at, tables_at]
    · show wrapK (_ - a5 (ix1 n)) * Ideal.div _ (a6 (ix1 n)) = _
      rw [hr, ← EReal.coe_sub]
      exact mul_inv_div _ _ (s6 n)
    · have b := abs_le.1 (atan_bound (sinD q p u) (cosD q p u))
      have b' := abs_le.1 hr'
      rw [abs_lt]
      constructor <;> linarith [b.1, b.2, b'.1, b'.2]
end

end Cert.Same
end
-- ==== Proof.Equal.lean ====
/- The two programs over exact numbers: their runs and the equation between their results. -/
module

public import proofs.«01_k».proof.Defs
public import proofs.«01_k».proof.Proof.Same
public import proofs.«01_k».proof.Proof.Gen.ReferenceIdeal.Run
public import proofs.«01_k».proof.Proof.Gen.ReferenceIdeal.Read
public import Idealize.ShloMosaic.Lib.Claim
public import Idealize.ShloMosaic.Lib.StableHlo.RunHlo
public import Idealize.ShloMosaic.Lib.Quiescent

@[expose] public section

set_option maxRecDepth 16384

noncomputable section

namespace Cert.Equal

open Idealize.ShloMosaic Idealize.SL.Sem

theorem frame_reference : Cert.quiescent_ReferenceIdeal := by
  intro m g _
  exact θ_run_mono (Cert.ReferenceIdeal.Value.run m g) fun r h => ⟨fun c => (h c).2, sem_eq_zero_of_no_sems (by decide) r.2⟩

/-- Equal arguments give the reference equal results. -/
theorem same_args {x y} (e0 : x = y) {x1 y1} (e1 : x1 = y1) {x2 y2} (e2 : x2 = y2) {x3 y3} (e3 : x3 = y3) {x4 y4} (e4 : x4 = y4) {x5 y5} (e5 : x5 = y5) {x6 y6} (e6 : x6 = y6) {x7 y7} (e7 : x7 = y7) {x8 y8} (e8 : x8 = y8) {x9 y9} (e9 : x9 = y9) {x10 y10} (e10 : x10 = y10) {x11 y11} (e11 : x11 = y11) {x12 y12} (e12 : x12 = y12) {x13 y13} (e13 : x13 = y13) :
    Cert.ReferenceIdeal.Read.val_main_v237 (F := Ideal) x x1 x2 x3 x4 x5 x6 x7 x8 x9 x10 x11 x12 x13 = Cert.ReferenceIdeal.Read.val_main_v237 (F := Ideal) y y1 y2 y3 y4 y5 y6 y7 y8 y9 y10 y11 y12 y13 := by
  subst e0 e1 e2 e3 e4 e5 e6 e7 e8 e9 e10 e11 e12 e13
  rfl

theorem equal : Cert.algebraic_KernelIdeal_ReferenceIdeal_pre_chain := by
  intro m g m' g' hpre hagree
  refine ⟨fun c => Cert.KernelIdeal.Whole.resultX (m ((c.tc : Thread Cert.KernelIdeal.nD Cert.KernelIdeal.τ).loc Cert.KernelIdeal.main_arg0)) (Cert.KernelIdeal.Whole.tablesOf m c), ?_, ?_⟩
  · refine θ_run_mono (θ_run_and (Cert.KernelIdeal.Whole.launched m g) (Cert.KernelIdeal.Whole.unchanged m g)) fun r h c => ?_
    exact ⟨((h.1.1 c).1 2).trans (Cert.KernelIdeal.Whole.final m c), h.2.1 c⟩
  · refine θ_run_mono (Cert.ReferenceIdeal.Value.run m' g') fun r h c => ?_
    refine ⟨(h c).1.trans ?_, (h c).2⟩
    obtain ⟨e0, e1, e2, e3, e4, e5, e6, e7, e8, e9, e10, e11, e12, e13⟩ := hagree c
    obtain ⟨p0, p1, p2, p3, p4, p5, p6, p7, p8, p9, p10, p11, p12⟩ := hpre c
    refine (Cert.ReferenceIdeal.Read.val_main_v237_eq (F := Ideal) (StableHlo.launchContents m' c)).trans ?_
    refine (same_args e0 e1 e2 e3 e4 e5 e6 e7 e8 e9 e10 e11 e12 e13).trans ?_
    show _ = Cert.KernelIdeal.Whole.resultX (m ((c.tc : Thread Cert.KernelIdeal.nD Cert.KernelIdeal.τ).loc Cert.KernelIdeal.main_arg0))
      (Cert.KernelIdeal.Whole.tables (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg6)))
    generalize m ((c.tc : Thread Cert.KernelIdeal.nD Cert.KernelIdeal.τ).loc Cert.KernelIdeal.main_arg0) = k0 at *
    generalize m ((c.tc : Thread Cert.KernelIdeal.nD Cert.KernelIdeal.τ).loc Cert.KernelIdeal.main_arg1) = k1 at *
    generalize m ((c.tc : Thread Cert.KernelIdeal.nD Cert.KernelIdeal.τ).loc Cert.KernelIdeal.main_arg2) = k2 at *
    generalize m ((c.tc : Thread Cert.KernelIdeal.nD Cert.KernelIdeal.τ).loc Cert.KernelIdeal.main_arg3) = k3 at *
    generalize m ((c.tc : Thread Cert.KernelIdeal.nD Cert.KernelIdeal.τ).loc Cert.KernelIdeal.main_arg4) = k4 at *
    generalize m ((c.tc : Thread Cert.KernelIdeal.nD Cert.KernelIdeal.τ).loc Cert.KernelIdeal.main_arg5) = k5 at *
    generalize m ((c.tc : Thread Cert.KernelIdeal.nD Cert.KernelIdeal.τ).loc Cert.KernelIdeal.main_arg6) = k6 at *
    generalize m ((c.tc : Thread Cert.KernelIdeal.nD Cert.KernelIdeal.τ).loc Cert.KernelIdeal.main_arg7) = k7 at *
    generalize m ((c.tc : Thread Cert.KernelIdeal.nD Cert.KernelIdeal.τ).loc Cert.KernelIdeal.main_arg8) = k8 at *
    generalize m ((c.tc : Thread Cert.KernelIdeal.nD Cert.KernelIdeal.τ).loc Cert.KernelIdeal.main_arg9) = k9 at *
    generalize m ((c.tc : Thread Cert.KernelIdeal.nD Cert.KernelIdeal.τ).loc Cert.KernelIdeal.main_arg10) = k10 at *
    generalize m ((c.tc : Thread Cert.KernelIdeal.nD Cert.KernelIdeal.τ).loc Cert.KernelIdeal.main_arg11) = k11 at *
    generalize m ((c.tc : Thread Cert.KernelIdeal.nD Cert.KernelIdeal.τ).loc Cert.KernelIdeal.main_arg12) = k12 at *
    generalize m ((c.tc : Thread Cert.KernelIdeal.nD Cert.KernelIdeal.τ).loc Cert.KernelIdeal.main_arg13) = k13 at *
    exact (Cert.Same.same k0 k1 k2 k3 k4 k5 k6 k7 k8 k9 k10 k11 k12 k13
      (Cert.Pre_chain.Whole.atoms_t1 k0 k1 k2 k3 k4 k5 k6 k7 k8 k9 k10 k11 k12 k13 p6)
      (Cert.Pre_chain.Whole.atoms_t2 k0 k1 k2 k3 k4 k5 k6 k7 k8 k9 k10 k11 k12 k13 p7)
      (Cert.Pre_chain.Whole.atoms_t3 k0 k1 k2 k3 k4 k5 k6 k7 k8 k9 k10 k11 k12 k13 p8)
      (Cert.Pre_chain.Whole.atoms_t4 k0 k1 k2 k3 k4 k5 k6 k7 k8 k9 k10 k11 k12 k13 p9)
      (Cert.Pre_chain.Whole.columns_tb k0 k1 k2 k3 k4 k5 k6 k7 k8 k9 k10 k11 k12 k13 p10)
      (Cert.Pre_chain.Whole.columns_ta k0 k1 k2 k3 k4 k5 k6 k7 k8 k9 k10 k11 k12 k13 p11)
      (Cert.Pre_chain.Whole.columns_td k0 k1 k2 k3 k4 k5 k6 k7 k8 k9 k10 k11 k12 k13 p12)
      (Cert.Pre_chain.Whole.finite_x k0 k1 k2 k3 k4 k5 k6 k7 k8 k9 k10 k11 k12 k13 p0)
      (Cert.Pre_chain.Whole.bent k0 k1 k2 k3 k4 k5 k6 k7 k8 k9 k10 k11 k12 k13 p1)
      (Cert.Pre_chain.Whole.std_bonds k0 k1 k2 k3 k4 k5 k6 k7 k8 k9 k10 k11 k12 k13 p2)
      (Cert.Pre_chain.Whole.std_angles k0 k1 k2 k3 k4 k5 k6 k7 k8 k9 k10 k11 k12 k13 p3)
      (Cert.Pre_chain.Whole.std_dih k0 k1 k2 k3 k4 k5 k6 k7 k8 k9 k10 k11 k12 k13 p4)
      (Cert.Pre_chain.Whole.mean_dih k0 k1 k2 k3 k4 k5 k6 k7 k8 k9 k10 k11 k12 k13 p5)).symm

end Cert.Equal
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_chain
public import proofs.«01_k».proof.Proof.KernelFrame
public import proofs.«01_k».proof.Proof.KRun
public import proofs.«01_k».proof.Proof.Equal
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_chain.Gen.facts,
    fun m g _ => Cert.Kernel.Whole.unchanged m g,
    fun m g _ => Cert.KernelIdeal.Whole.unchanged m g,
    fun m g _ => Cert.KernelIdeal.Whole.unchanged m g,
    Cert.Equal.frame_reference,
    fun m g _ => Cert.Equal.frame_reference m g trivial,
    IdealRules.named_const.statement Cert.KernelIdeal.κ "inv_two_pi" .f32 0x3E22F983#32 ((2097152 / 13176795 : ℝ) : EReal) rfl,
    Cert.Equal.equal⟩

end Cert.Proof

end
